-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_xor_tables_finite [hPre_xor_tables_finite : Cert.Pre_xor_tables_finite.Facts] (m : (ℓ : Loc Cert.KernelIdeal.nD Cert.KernelIdeal.τ Cert.KernelIdeal.sig) → Buf (Elt Ideal) ℓ) : Prop :=
  ∀ c : Dev Cert.KernelIdeal.nD,
    (Cert.Pre_xor_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_xor_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_xor_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_xor_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_xor_tables_finite [hPre_xor_tables_finite : Cert.Pre_xor_tables_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_xor_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_xor_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_xor_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_xor_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_xor_tables_finite [hKernelIdeal : Cert.KernelIdeal.Facts] [hPre_xor_tables_finite : Cert.Pre_xor_tables_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_xor_tables_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_xor_tables_finite [hReferenceIdeal : Cert.ReferenceIdeal.Facts] [hPre_xor_tables_finite : Cert.Pre_xor_tables_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_xor_tables_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_xor_tables_finite [hKernelIdeal : Cert.KernelIdeal.Facts] [hReferenceIdeal : Cert.ReferenceIdeal.Facts] [hPre_xor_tables_finite : Cert.Pre_xor_tables_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_xor_tables_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_xor_tables_finite : Cert.Pre_xor_tables_finite.Facts),
    quiescent_Kernel (hKernel := hKernel)
    ∧ quiescent_KernelIdeal (hKernelIdeal := hKernelIdeal)
    ∧ quiescent_KernelIdeal_pre_xor_tables_finite (hKernelIdeal := hKernelIdeal) (hPre_xor_tables_finite := hPre_xor_tables_finite)
    ∧ quiescent_ReferenceIdeal (hReferenceIdeal := hReferenceIdeal)
    ∧ quiescent_ReferenceIdeal_pre_xor_tables_finite (hReferenceIdeal := hReferenceIdeal) (hPre_xor_tables_finite := hPre_xor_tables_finite)
    ∧ preserves_Kernel_KernelIdeal
    ∧ algebraic_KernelIdeal_ReferenceIdeal_pre_xor_tables_finite (hKernelIdeal := hKernelIdeal) (hReferenceIdeal := hReferenceIdeal) (hPre_xor_tables_finite := hPre_xor_tables_finite)
-- ==== Pre_xor_tables_finite.lean ====
abbrev S1024x256 : Shape := ⟨2, ![1024, 256]⟩
abbrev S256x256 : Shape := ⟨2, ![256, 256]⟩
abbrev S_ : Shape := ⟨0, ![]⟩

class Facts : Prop where
  bcast_S_S1024x256 : S_.BroadcastsInDim S1024x256 (![] : Fin 0 → Fin S1024x256.rank)

variable [Facts]

def fn {F : FTy → Type} [FloatOps F] (main_arg0 : FVec F S1024x256 .f32) (main_arg1 : FVec F S1024x256 .f32) (main_arg2 : IVec S256x256 32) (main_arg3 : IVec S256x256 32) : IVec S1024x256 1 × IVec S1024x256 1 × IVec S256x256 1 × IVec S256x256 1 :=
  let main_v0 : IVec S256x256 32 := iotaInDim S256x256 32 0
  let main_v1 : IVec S256x256 32 := iotaInDim S256x256 32 1
  let main_v2 : FVec F S1024x256 .f32 := Host.absf main_arg0
  let main_cst : FVec F S_ .f32 := constant S_ .f32 0x7F800000#32
  let main_v3 : FVec F S1024x256 .f32 := broadcastInDim S1024x256 ![] bcast_S_S1024x256 main_cst
  let main_v4 : IVec S1024x256 1 := cmpf .olt main_v2 main_v3
  let main_v5 : FVec F S1024x256 .f32 := Host.absf main_arg1
  let main_cst_0 : FVec F S_ .f32 := constant S_ .f32 0x7F800000#32
  let main_v6 : FVec F S1024x256 .f32 := broadcastInDim S1024x256 ![] bcast_S_S1024x256 main_cst_0
  let main_v7 : IVec S1024x256 1 := cmpf .olt main_v5 main_v6
  let main_v8 : IVec S256x256 1 := cmpi .eq main_arg2 main_v1
  let main_v9 : IVec S256x256 32 := xori main_v1 main_v0
  let main_v10 : IVec S256x256 1 := cmpi .eq main_arg3 main_v9
  (main_v4, main_v7, main_v8, main_v10)
-- ==== Kernel.lean ====
abbrev S1024x256 : Shape := ⟨2, ![1024, 256]⟩
abbrev S256x256 : Shape := ⟨2, ![256, 256]⟩
abbrev S2x512x256 : Shape := ⟨3, ![2, 512, 256]⟩
abbrev S2 : Shape := ⟨1, ![2]⟩
abbrev S1 : Shape := ⟨1, ![1]⟩
abbrev S_ : Shape := ⟨0, ![]⟩
abbrev S1x512x256 : Shape := ⟨3, ![1, 512, 256]⟩
abbrev S512x256 : Shape := ⟨2, ![512, 256]⟩

abbrev nBuf : Space → Nat
  | .hbm => 5
  | .vmem => 3
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S256x256, .i32⟩
  | .hbm, ⟨3, _⟩ => ⟨S256x256, .i32⟩
  | .hbm, ⟨4, _⟩ => ⟨S1024x256, .f32⟩
  | .local _ .vmem, ⟨0, _⟩ => ⟨S2x512x256, .f32⟩
  | .local _ .vmem, ⟨1, _⟩ => ⟨S2x512x256, .f32⟩
  | .local _ .vmem, ⟨2, _⟩ => ⟨S2x512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩

abbrev nD : Nat := 1
abbrev τ : Topo := Topo.v7x

variable {F : FTy → Type} [FloatOps F]

abbrev grid0 : Pipeline.Grid := .none

def k0_off1 : Fin 1 → Nat :=
  let c0_i32_19_r0 : BitVec 32 := 0#32
  let c2_i32_20_r0 : BitVec 32 := 2#32
  let v37_r0 : BitVec 32 := Scalar.remui c0_i32_19_r0 c2_i32_20_r0
  ![v37_r0.toNat]
def k0_off2 : Fin 3 → Nat :=
  let c0_i32_19_r0 : BitVec 32 := 0#32
  let c2_i32_20_r0 : BitVec 32 := 2#32
  let v37_r0 : BitVec 32 := Scalar.remui c0_i32_19_r0 c2_i32_20_r0
  let c0_i32_21_r0 : BitVec 32 := 0#32
  let c0_i32_22_r0 : BitVec 32 := 0#32
  ![v37_r0.toNat, 0, 0]
@[reducible] def k0_t1_loop : Scf.Loop 32 :=
  let c0_i32_40_r0 : BitVec 32 := 0#32
  let c2_i32_41_r0 : BitVec 32 := 2#32
  let v51_r0 : BitVec 32 := Scalar.addi c0_i32_40_r0 c2_i32_41_r0
  let c1_i32_42_r0 : BitVec 32 := 1#32
  ⟨c0_i32_40_r0, v51_r0, c1_i32_42_r0⟩
def k0_off3 (arg4_r0 : BitVec 32) : Fin 1 → Nat :=
  let c2_i32_139_r0 : BitVec 32 := 2#32
  let v209_r0 : BitVec 32 := Scalar.remui arg4_r0 c2_i32_139_r0
  ![v209_r0.toNat]
def k0_cond1 (k0_t1 : Fin k0_t1_loop.trips) (arg10_r0 : BitVec 32) : BitVec 1 :=
  let c0_i32_70_r0 : BitVec 32 := 0#32
  let v82_r0 : BitVec 32 := Scalar.addi arg10_r0 c0_i32_70_r0
  let true_77_r0 : BitVec 1 := 1#1
  let c1_i32_76_r0 : BitVec 32 := 1#32
  let v88_r0 : BitVec 32 := Scalar.addi arg10_r0 c1_i32_76_r0
  let v89_r0 : BitVec 32 := Scalar.select true_77_r0 v88_r0 arg10_r0
  let c2_i32_78_r0 : BitVec 32 := 2#32
  let v90_r0 : BitVec 1 := Scalar.cmpi .eq v89_r0 c2_i32_78_r0
  let c0_i32_79_r0 : BitVec 32 := 0#32
  let v91_r0 : BitVec 32 := Scalar.select v90_r0 c0_i32_79_r0 v89_r0
  let c0_i32_80_r0 : BitVec 32 := 0#32
  let v92_r0 : BitVec 32 := Scalar.addi v91_r0 c0_i32_80_r0
  let v98_r0 : BitVec 1 := Scalar.cmpi .ne v82_r0 v92_r0
  let c0_i32_40_r0 : BitVec 32 := 0#32
  let c1_i32_42_r0 : BitVec 32 := 1#32
  let arg3_r0 : BitVec 32 := Scf.iv c0_i32_40_r0 c1_i32_42_r0 k0_t1
  let c1_i32_86_r0 : BitVec 32 := 1#32
  let v99_r0 : BitVec 1 := Scalar.cmpi .sge arg3_r0 c1_i32_86_r0
  let true_87_r0 : BitVec 1 := 1#1
  let v100_r0 : BitVec 1 := Scalar.xori v99_r0 true_87_r0
  let v101_r0 : BitVec 1 := Scalar.andi v98_r0 v100_r0
  let true_88_r0 : BitVec 1 := 1#1
  let v102_r0 : BitVec 1 := Scalar.andi v101_r0 true_88_r0
  let v103_r0 : BitVec 32 := Scalar.extui v102_r0
  let c0_i32_89_r0 : BitVec 32 := 0#32
  let v104_r0 : BitVec 1 := Scalar.cmpi .ne v103_r0 c0_i32_89_r0
  v104_r0

def k0_off4 (arg4_r0 : BitVec 32) : Fin 3 → Nat :=
  let c2_i32_139_r0 : BitVec 32 := 2#32
  let v209_r0 : BitVec 32 := Scalar.remui arg4_r0 c2_i32_139_r0
  let c0_i32_141_r0 : BitVec 32 := 0#32
  let c0_i32_142_r0 : BitVec 32 := 0#32
  ![v209_r0.toNat, 0, 0]
def k0_off5 (arg10_r0 : BitVec 32) : Fin 2 → Nat :=
  let c512_i32_140_r0 : BitVec 32 := 512#32
  let true_77_r0 : BitVec 1 := 1#1
  let c1_i32_76_r0 : BitVec 32 := 1#32
  let v88_r0 : BitVec 32 := Scalar.addi arg10_r0 c1_i32_76_r0
  let v89_r0 : BitVec 32 := Scalar.select true_77_r0 v88_r0 arg10_r0
  let c2_i32_78_r0 : BitVec 32 := 2#32
  let v90_r0 : BitVec 1 := Scalar.cmpi .eq v89_r0 c2_i32_78_r0
  let c0_i32_79_r0 : BitVec 32 := 0#32
  let v91_r0 : BitVec 32 := Scalar.select v90_r0 c0_i32_79_r0 v89_r0
  let c0_i32_80_r0 : BitVec 32 := 0#32
  let v92_r0 : BitVec 32 := Scalar.addi v91_r0 c0_i32_80_r0
  let v210_r0 : BitVec 32 := Scalar.muli c512_i32_140_r0 v92_r0
  let c0_i32_143_r0 : BitVec 32 := 0#32
  ![v210_r0.toNat, 0]
def k0_off6 (arg6_r0 : BitVec 32) : Fin 1 → Nat :=
  let c2_i32_139_r0 : BitVec 32 := 2#32
  let v209_r0 : BitVec 32 := Scalar.remui arg6_r0 c2_i32_139_r0
  ![v209_r0.toNat]
def k0_cond2 (k0_t1 : Fin k0_t1_loop.trips) (arg10_r0 : BitVec 32) : BitVec 1 :=
  let c0_i32_70_r0 : BitVec 32 := 0#32
  let v82_r0 : BitVec 32 := Scalar.addi arg10_r0 c0_i32_70_r0
  let true_77_r0 : BitVec 1 := 1#1
  let c1_i32_76_r0 : BitVec 32 := 1#32
  let v88_r0 : BitVec 32 := Scalar.addi arg10_r0 c1_i32_76_r0
  let v89_r0 : BitVec 32 := Scalar.select true_77_r0 v88_r0 arg10_r0
  let c2_i32_78_r0 : BitVec 32 := 2#32
  let v90_r0 : BitVec 1 := Scalar.cmpi .eq v89_r0 c2_i32_78_r0
  let c0_i32_79_r0 : BitVec 32 := 0#32
  let v91_r0 : BitVec 32 := Scalar.select v90_r0 c0_i32_79_r0 v89_r0
  let c0_i32_80_r0 : BitVec 32 := 0#32
  let v92_r0 : BitVec 32 := Scalar.addi v91_r0 c0_i32_80_r0
  let v108_r0 : BitVec 1 := Scalar.cmpi .ne v82_r0 v92_r0
  let c0_i32_40_r0 : BitVec 32 := 0#32
  let c1_i32_42_r0 : BitVec 32 := 1#32
  let arg3_r0 : BitVec 32 := Scf.iv c0_i32_40_r0 c1_i32_42_r0 k0_t1
  let c1_i32_92_r0 : BitVec 32 := 1#32
  let v109_r0 : BitVec 1 := Scalar.cmpi .sge arg3_r0 c1_i32_92_r0
  let true_93_r0 : BitVec 1 := 1#1
  let v110_r0 : BitVec 1 := Scalar.xori v109_r0 true_93_r0
  let v111_r0 : BitVec 1 := Scalar.andi v108_r0 v110_r0
  let true_94_r0 : BitVec 1 := 1#1
  let v112_r0 : BitVec 1 := Scalar.andi v111_r0 true_94_r0
  let v113_r0 : BitVec 32 := Scalar.extui v112_r0
  let c0_i32_95_r0 : BitVec 32 := 0#32
  let v114_r0 : BitVec 1 := Scalar.cmpi .ne v113_r0 c0_i32_95_r0
  v114_r0

def k0_off7 (arg6_r0 : BitVec 32) : Fin 3 → Nat :=
  let c2_i32_139_r0 : BitVec 32 := 2#32
  let v209_r0 : BitVec 32 := Scalar.remui arg6_r0 c2_i32_139_r0
  let c0_i32_141_r0 : BitVec 32 := 0#32
  let c0_i32_142_r0 : BitVec 32 := 0#32
  ![v209_r0.toNat, 0, 0]
def k0_off8 (arg10_r0 : BitVec 32) : Fin 2 → Nat :=
  let c512_i32_140_r0 : BitVec 32 := 512#32
  let true_77_r0 : BitVec 1 := 1#1
  let c1_i32_76_r0 : BitVec 32 := 1#32
  let v88_r0 : BitVec 32 := Scalar.addi arg10_r0 c1_i32_76_r0
  let v89_r0 : BitVec 32 := Scalar.select true_77_r0 v88_r0 arg10_r0
  let c2_i32_78_r0 : BitVec 32 := 2#32
  let v90_r0 : BitVec 1 := Scalar.cmpi .eq v89_r0 c2_i32_78_r0
  let c0_i32_79_r0 : BitVec 32 := 0#32
  let v91_r0 : BitVec 32 := Scalar.select v90_r0 c0_i32_79_r0 v89_r0
  let c0_i32_80_r0 : BitVec 32 := 0#32
  let v92_r0 : BitVec 32 := Scalar.addi v91_r0 c0_i32_80_r0
  let v210_r0 : BitVec 32 := Scalar.muli c512_i32_140_r0 v92_r0
  let c0_i32_143_r0 : BitVec 32 := 0#32
  ![v210_r0.toNat, 0]
def k0_off9 (arg5_r0 : BitVec 32) : Fin 1 → Nat :=
  let c2_i32_140_r0 : BitVec 32 := 2#32
  let v210_r0 : BitVec 32 := Scalar.remui arg5_r0 c2_i32_140_r0
  ![v210_r0.toNat]
def k0_cond3 (k0_t1 : Fin k0_t1_loop.trips) (arg10_r0 : BitVec 32) : BitVec 1 :=
  let c0_i32_70_r0 : BitVec 32 := 0#32
  let v82_r0 : BitVec 32 := Scalar.addi arg10_r0 c0_i32_70_r0
  let true_72_r0 : BitVec 1 := 1#1
  let c1_i32_71_r0 : BitVec 32 := 1#32
  let v83_r0 : BitVec 32 := Scalar.subi arg10_r0 c1_i32_71_r0
  let v84_r0 : BitVec 32 := Scalar.select true_72_r0 v83_r0 arg10_r0
  let c_m1_i32_73_r0 : BitVec 32 := 4294967295#32
  let v85_r0 : BitVec 1 := Scalar.cmpi .eq v84_r0 c_m1_i32_73_r0
  let c1_i32_74_r0 : BitVec 32 := 1#32
  let v86_r0 : BitVec 32 := Scalar.select v85_r0 c1_i32_74_r0 v84_r0
  let c0_i32_75_r0 : BitVec 32 := 0#32
  let v87_r0 : BitVec 32 := Scalar.addi v86_r0 c0_i32_75_r0
  let v122_r0 : BitVec 1 := Scalar.cmpi .ne v82_r0 v87_r0
  let c0_i32_40_r0 : BitVec 32 := 0#32
  let c1_i32_42_r0 : BitVec 32 := 1#32
  let arg3_r0 : BitVec 32 := Scf.iv c0_i32_40_r0 c1_i32_42_r0 k0_t1
  let c0_i32_68_r0 : BitVec 32 := 0#32
  let v80_r0 : BitVec 1 := Scalar.cmpi .eq arg3_r0 c0_i32_68_r0
  let v123_r0 : BitVec 1 := Scalar.ori v122_r0 v80_r0
  let c0_i32_100_r0 : BitVec 32 := 0#32
  let v124_r0 : BitVec 1 := Scalar.cmpi .sge arg3_r0 c0_i32_100_r0
  let v125_r0 : BitVec 1 := Scalar.andi v123_r0 v124_r0
  let v126_r0 : BitVec 32 := Scalar.extui v125_r0
  let c0_i32_101_r0 : BitVec 32 := 0#32
  let v127_r0 : BitVec 1 := Scalar.cmpi .ne v126_r0 c0_i32_101_r0
  v127_r0

def k0_off10 (arg5_r0 : BitVec 32) : Fin 3 → Nat :=
  let c2_i32_140_r0 : BitVec 32 := 2#32
  let v210_r0 : BitVec 32 := Scalar.remui arg5_r0 c2_i32_140_r0
  let c0_i32_141_r0 : BitVec 32 := 0#32
  let c0_i32_142_r0 : BitVec 32 := 0#32
  ![v210_r0.toNat, 0, 0]
def k0_off11 (arg10_r0 : BitVec 32) : Fin 2 → Nat :=
  let c512_i32_139_r0 : BitVec 32 := 512#32
  let c0_i32_70_r0 : BitVec 32 := 0#32
  let v82_r0 : BitVec 32 := Scalar.addi arg10_r0 c0_i32_70_r0
  let v209_r0 : BitVec 32 := Scalar.muli c512_i32_139_r0 v82_r0
  let c0_i32_143_r0 : BitVec 32 := 0#32
  ![v209_r0.toNat, 0]
def k0_off12 (arg7_r0 : BitVec 32) : Fin 1 → Nat :=
  let c2_i32_140_r0 : BitVec 32 := 2#32
  let v210_r0 : BitVec 32 := Scalar.remui arg7_r0 c2_i32_140_r0
  ![v210_r0.toNat]
def k0_cond4 (k0_t1 : Fin k0_t1_loop.trips) (arg10_r0 : BitVec 32) : BitVec 1 :=
  let c0_i32_70_r0 : BitVec 32 := 0#32
  let v82_r0 : BitVec 32 := Scalar.addi arg10_r0 c0_i32_70_r0
  let true_72_r0 : BitVec 1 := 1#1
  let c1_i32_71_r0 : BitVec 32 := 1#32
  let v83_r0 : BitVec 32 := Scalar.subi arg10_r0 c1_i32_71_r0
  let v84_r0 : BitVec 32 := Scalar.select true_72_r0 v83_r0 arg10_r0
  let c_m1_i32_73_r0 : BitVec 32 := 4294967295#32
  let v85_r0 : BitVec 1 := Scalar.cmpi .eq v84_r0 c_m1_i32_73_r0
  let c1_i32_74_r0 : BitVec 32 := 1#32
  let v86_r0 : BitVec 32 := Scalar.select v85_r0 c1_i32_74_r0 v84_r0
  let c0_i32_75_r0 : BitVec 32 := 0#32
  let v87_r0 : BitVec 32 := Scalar.addi v86_r0 c0_i32_75_r0
  let v128_r0 : BitVec 1 := Scalar.cmpi .ne v82_r0 v87_r0
  let c0_i32_40_r0 : BitVec 32 := 0#32
  let c1_i32_42_r0 : BitVec 32 := 1#32
  let arg3_r0 : BitVec 32 := Scf.iv c0_i32_40_r0 c1_i32_42_r0 k0_t1
  let c0_i32_68_r0 : BitVec 32 := 0#32
  let v80_r0 : BitVec 1 := Scalar.cmpi .eq arg3_r0 c0_i32_68_r0
  let v129_r0 : BitVec 1 := Scalar.ori v128_r0 v80_r0
  let c0_i32_102_r0 : BitVec 32 := 0#32
  let v130_r0 : BitVec 1 := Scalar.cmpi .sge arg3_r0 c0_i32_102_r0
  let v131_r0 : BitVec 1 := Scalar.andi v129_r0 v130_r0
  let v132_r0 : BitVec 32 := Scalar.extui v131_r0
  let c0_i32_103_r0 : BitVec 32 := 0#32
  let v133_r0 : BitVec 1 := Scalar.cmpi .ne v132_r0 c0_i32_103_r0
  v133_r0

def k0_off13 (arg7_r0 : BitVec 32) : Fin 3 → Nat :=
  let c2_i32_140_r0 : BitVec 32 := 2#32
  let v210_r0 : BitVec 32 := Scalar.remui arg7_r0 c2_i32_140_r0
  let c0_i32_141_r0 : BitVec 32 := 0#32
  let c0_i32_142_r0 : BitVec 32 := 0#32
  ![v210_r0.toNat, 0, 0]
def k0_off14 (arg10_r0 : BitVec 32) : Fin 2 → Nat :=
  let c512_i32_139_r0 : BitVec 32 := 512#32
  let c0_i32_70_r0 : BitVec 32 := 0#32
  let v82_r0 : BitVec 32 := Scalar.addi arg10_r0 c0_i32_70_r0
  let v209_r0 : BitVec 32 := Scalar.muli c512_i32_139_r0 v82_r0
  let c0_i32_143_r0 : BitVec 32 := 0#32
  ![v209_r0.toNat, 0]
def k0_off15 (arg5_r0 : BitVec 32) : Fin 3 → Nat :=
  let c2_i32_106_r0 : BitVec 32 := 2#32
  let v140_r0 : BitVec 32 := Scalar.remui arg5_r0 c2_i32_106_r0
  let v143_r0 : Index := Scalar.indexCast v140_r0
  let c0_r0 : Index := 0#32
  let c0_109_r0 : Index := 0#32
  ![v143_r0.toNat, 0, 0]

def k0_chk2 (arg5_r0 : BitVec 32) : Prop :=
  (∀ a, (k0_off15 arg5_r0) a + S1x512x256.size a ≤ S2x512x256.size a)
theorem k0_off15_inb : ∀ (arg5_r0 : BitVec 32) (k0_hw2 : k0_chk2 arg5_r0), ∀ a, (k0_off15 arg5_r0) a + S1x512x256.size a ≤ S2x512x256.size a := fun arg5_r0 k0_hw2 => k0_hw2

def k0_off16 (arg7_r0 : BitVec 32) : Fin 3 → Nat :=
  let c2_i32_107_r0 : BitVec 32 := 2#32
  let v141_r0 : BitVec 32 := Scalar.remui arg7_r0 c2_i32_107_r0
  let v148_r0 : Index := Scalar.indexCast v141_r0
  let c0_111_r0 : Index := 0#32
  let c0_112_r0 : Index := 0#32
  ![v148_r0.toNat, 0, 0]

def k0_chk3 (arg7_r0 : BitVec 32) : Prop :=
  (∀ a, (k0_off16 arg7_r0) a + S1x512x256.size a ≤ S2x512x256.size a)
theorem k0_off16_inb : ∀ (arg7_r0 : BitVec 32) (k0_hw3 : k0_chk3 arg7_r0), ∀ a, (k0_off16 arg7_r0) a + S1x512x256.size a ≤ S2x512x256.size a := fun arg7_r0 k0_hw3 => k0_hw3

def k0_off17 (arg8_r0 : BitVec 32) : Fin 3 → Nat :=
  let c2_i32_108_r0 : BitVec 32 := 2#32
  let v142_r0 : BitVec 32 := Scalar.remui arg8_r0 c2_i32_108_r0
  let v156_r0 : Index := Scalar.indexCast v142_r0
  let c0_115_r0 : Index := 0#32
  let c0_116_r0 : Index := 0#32
  ![v156_r0.toNat, 0, 0]

def k0_chk4 (arg8_r0 : BitVec 32) : Prop :=
  (∀ a, (k0_off17 arg8_r0) a + S1x512x256.size a ≤ S2x512x256.size a)
theorem k0_off17_inb : ∀ (arg8_r0 : BitVec 32) (k0_hw4 : k0_chk4 arg8_r0), ∀ a, (k0_off17 arg8_r0) a + S1x512x256.size a ≤ S2x512x256.size a := fun arg8_r0 k0_hw4 => k0_hw4

def k0_off18 (arg8_r0 : BitVec 32) : Fin 1 → Nat :=
  let c2_i32_139_r0 : BitVec 32 := 2#32
  let v209_r0 : BitVec 32 := Scalar.remui arg8_r0 c2_i32_139_r0
  ![v209_r0.toNat]
def k0_cond8 (k0_t1 : Fin k0_t1_loop.trips) (arg10_r0 : BitVec 32) : BitVec 1 :=
  let c0_i32_70_r0 : BitVec 32 := 0#32
  let v82_r0 : BitVec 32 := Scalar.addi arg10_r0 c0_i32_70_r0
  let true_77_r0 : BitVec 1 := 1#1
  let c1_i32_76_r0 : BitVec 32 := 1#32
  let v88_r0 : BitVec 32 := Scalar.addi arg10_r0 c1_i32_76_r0
  let v89_r0 : BitVec 32 := Scalar.select true_77_r0 v88_r0 arg10_r0
  let c2_i32_78_r0 : BitVec 32 := 2#32
  let v90_r0 : BitVec 1 := Scalar.cmpi .eq v89_r0 c2_i32_78_r0
  let c0_i32_79_r0 : BitVec 32 := 0#32
  let v91_r0 : BitVec 32 := Scalar.select v90_r0 c0_i32_79_r0 v89_r0
  let c0_i32_80_r0 : BitVec 32 := 0#32
  let v92_r0 : BitVec 32 := Scalar.addi v91_r0 c0_i32_80_r0
  let v170_r0 : BitVec 1 := Scalar.cmpi .ne v82_r0 v92_r0
  let c0_i32_40_r0 : BitVec 32 := 0#32
  let c1_i32_42_r0 : BitVec 32 := 1#32
  let arg3_r0 : BitVec 32 := Scf.iv c0_i32_40_r0 c1_i32_42_r0 k0_t1
  let c1_i32_69_r0 : BitVec 32 := 1#32
  let v81_r0 : BitVec 1 := Scalar.cmpi .eq arg3_r0 c1_i32_69_r0
  let v171_r0 : BitVec 1 := Scalar.ori v170_r0 v81_r0
  let v172_r0 : BitVec 32 := Scalar.extui v171_r0
  let c0_i32_120_r0 : BitVec 32 := 0#32
  let v173_r0 : BitVec 1 := Scalar.cmpi .ne v172_r0 c0_i32_120_r0
  v173_r0

def k0_off19 (arg10_r0 : BitVec 32) : Fin 2 → Nat :=
  let c512_i32_140_r0 : BitVec 32 := 512#32
  let c0_i32_70_r0 : BitVec 32 := 0#32
  let v82_r0 : BitVec 32 := Scalar.addi arg10_r0 c0_i32_70_r0
  let v210_r0 : BitVec 32 := Scalar.muli c512_i32_140_r0 v82_r0
  let c0_i32_141_r0 : BitVec 32 := 0#32
  ![v210_r0.toNat, 0]
def k0_off20 (arg8_r0 : BitVec 32) : Fin 3 → Nat :=
  let c2_i32_139_r0 : BitVec 32 := 2#32
  let v209_r0 : BitVec 32 := Scalar.remui arg8_r0 c2_i32_139_r0
  let c0_i32_142_r0 : BitVec 32 := 0#32
  let c0_i32_143_r0 : BitVec 32 := 0#32
  ![v209_r0.toNat, 0, 0]
def k0_off21 (arg9_r0 : BitVec 32) : Fin 1 → Nat :=
  let c2_i32_139_r0 : BitVec 32 := 2#32
  let v209_r0 : BitVec 32 := Scalar.remui arg9_r0 c2_i32_139_r0
  ![v209_r0.toNat]
def k0_cond11 (k0_t1 : Fin k0_t1_loop.trips) (arg10_r0 : BitVec 32) : BitVec 1 :=
  let c0_i32_70_r0 : BitVec 32 := 0#32
  let v82_r0 : BitVec 32 := Scalar.addi arg10_r0 c0_i32_70_r0
  let true_72_r0 : BitVec 1 := 1#1
  let c1_i32_71_r0 : BitVec 32 := 1#32
  let v83_r0 : BitVec 32 := Scalar.subi arg10_r0 c1_i32_71_r0
  let v84_r0 : BitVec 32 := Scalar.select true_72_r0 v83_r0 arg10_r0
  let c_m1_i32_73_r0 : BitVec 32 := 4294967295#32
  let v85_r0 : BitVec 1 := Scalar.cmpi .eq v84_r0 c_m1_i32_73_r0
  let c1_i32_74_r0 : BitVec 32 := 1#32
  let v86_r0 : BitVec 32 := Scalar.select v85_r0 c1_i32_74_r0 v84_r0
  let c0_i32_75_r0 : BitVec 32 := 0#32
  let v87_r0 : BitVec 32 := Scalar.addi v86_r0 c0_i32_75_r0
  let v189_r0 : BitVec 1 := Scalar.cmpi .ne v82_r0 v87_r0
  let c0_i32_40_r0 : BitVec 32 := 0#32
  let c1_i32_42_r0 : BitVec 32 := 1#32
  let arg3_r0 : BitVec 32 := Scf.iv c0_i32_40_r0 c1_i32_42_r0 k0_t1
  let c0_i32_68_r0 : BitVec 32 := 0#32
  let v80_r0 : BitVec 1 := Scalar.cmpi .eq arg3_r0 c0_i32_68_r0
  let true_129_r0 : BitVec 1 := 1#1
  let v190_r0 : BitVec 1 := Scalar.xori v80_r0 true_129_r0
  let v191_r0 : BitVec 1 := Scalar.andi v189_r0 v190_r0
  let v192_r0 : BitVec 32 := Scalar.extui v191_r0
  let c0_i32_130_r0 : BitVec 32 := 0#32
  let v193_r0 : BitVec 1 := Scalar.cmpi .ne v192_r0 c0_i32_130_r0
  v193_r0

def k0_off22 (arg10_r0 : BitVec 32) : Fin 2 → Nat :=
  let c512_i32_140_r0 : BitVec 32 := 512#32
  let true_72_r0 : BitVec 1 := 1#1
  let c1_i32_71_r0 : BitVec 32 := 1#32
  let v83_r0 : BitVec 32 := Scalar.subi arg10_r0 c1_i32_71_r0
  let v84_r0 : BitVec 32 := Scalar.select true_72_r0 v83_r0 arg10_r0
  let c_m1_i32_73_r0 : BitVec 32 := 4294967295#32
  let v85_r0 : BitVec 1 := Scalar.cmpi .eq v84_r0 c_m1_i32_73_r0
  let c1_i32_74_r0 : BitVec 32 := 1#32
  let v86_r0 : BitVec 32 := Scalar.select v85_r0 c1_i32_74_r0 v84_r0
  let c0_i32_75_r0 : BitVec 32 := 0#32
  let v87_r0 : BitVec 32 := Scalar.addi v86_r0 c0_i32_75_r0
  let v210_r0 : BitVec 32 := Scalar.muli c512_i32_140_r0 v87_r0
  let c0_i32_141_r0 : BitVec 32 := 0#32
  ![v210_r0.toNat, 0]
def k0_off23 (arg9_r0 : BitVec 32) : Fin 3 → Nat :=
  let c2_i32_139_r0 : BitVec 32 := 2#32
  let v209_r0 : BitVec 32 := Scalar.remui arg9_r0 c2_i32_139_r0
  let c0_i32_142_r0 : BitVec 32 := 0#32
  let c0_i32_143_r0 : BitVec 32 := 0#32
  ![v209_r0.toNat, 0, 0]

def k0_chk1 (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) : Prop :=
  (∀ (k0_h1 : k0_cond1 k0_t1 arg10_r0 = 1#1), ∀ a, (k0_off3 arg4_r0) a + S1.size a ≤ S2.size a) ∧
  (∀ (k0_h1 : k0_cond1 k0_t1 arg10_r0 = 1#1), ∀ a, (k0_off4 arg4_r0) a + S1x512x256.size a ≤ S2x512x256.size a) ∧
  (∀ (k0_h1 : k0_cond1 k0_t1 arg10_r0 = 1#1), ∀ a, (k0_off5 arg10_r0) a + S512x256.size a ≤ S1024x256.size a) ∧
  (∀ (k0_h2 : k0_cond2 k0_t1 arg10_r0 = 1#1), ∀ a, (k0_off6 arg6_r0) a + S1.size a ≤ S2.size a) ∧
  (∀ (k0_h2 : k0_cond2 k0_t1 arg10_r0 = 1#1), ∀ a, (k0_off7 arg6_r0) a + S1x512x256.size a ≤ S2x512x256.size a) ∧
  (∀ (k0_h2 : k0_cond2 k0_t1 arg10_r0 = 1#1), ∀ a, (k0_off8 arg10_r0) a + S512x256.size a ≤ S1024x256.size a) ∧
  (∀ (k0_h3 : k0_cond3 k0_t1 arg10_r0 = 1#1), ∀ a, (k0_off9 arg5_r0) a + S1.size a ≤ S2.size a) ∧
  (∀ (k0_h3 : k0_cond3 k0_t1 arg10_r0 = 1#1), ∀ a, (k0_off10 arg5_r0) a + S1x512x256.size a ≤ S2x512x256.size a) ∧
  (∀ (k0_h3 : k0_cond3 k0_t1 arg10_r0 = 1#1), ∀ a, (k0_off11 arg10_r0) a + S512x256.size a ≤ S1024x256.size a) ∧
  (∀ (k0_h4 : k0_cond4 k0_t1 arg10_r0 = 1#1), ∀ a, (k0_off12 arg7_r0) a + S1.size a ≤ S2.size a) ∧
  (∀ (k0_h4 : k0_cond4 k0_t1 arg10_r0 = 1#1), ∀ a, (k0_off13 arg7_r0) a + S1x512x256.size a ≤ S2x512x256.size a) ∧
  (∀ (k0_h4 : k0_cond4 k0_t1 arg10_r0 = 1#1), ∀ a, (k0_off14 arg10_r0) a + S512x256.size a ≤ S1024x256.size a) ∧
  (∀ (k0_h8 : k0_cond8 k0_t1 arg10_r0 = 1#1), ∀ a, (k0_off18 arg8_r0) a + S1.size a ≤ S2.size a) ∧
  (∀ (k0_h8 : k0_cond8 k0_t1 arg10_r0 = 1#1), ∀ a, (k0_off19 arg10_r0) a + S512x256.size a ≤ S1024x256.size a) ∧
  (∀ (k0_h8 : k0_cond8 k0_t1 arg10_r0 = 1#1), ∀ a, (k0_off20 arg8_r0) a + S1x512x256.size a ≤ S2x512x256.size a) ∧
  (∀ (k0_h11 : k0_cond11 k0_t1 arg10_r0 = 1#1), ∀ a, (k0_off21 arg9_r0) a + S1.size a ≤ S2.size a) ∧
  (∀ (k0_h11 : k0_cond11 k0_t1 arg10_r0 = 1#1), ∀ a, (k0_off22 arg10_r0) a + S512x256.size a ≤ S1024x256.size a) ∧
  (∀ (k0_h11 : k0_cond11 k0_t1 arg10_r0 = 1#1), ∀ a, (k0_off23 arg9_r0) a + S1x512x256.size a ≤ S2x512x256.size a)
theorem k0_off3_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h1 : k0_cond1 k0_t1 arg10_r0 = 1#1), ∀ a, (k0_off3 arg4_r0) a + S1.size a ≤ S2.size a := fun k0_t1 arg4_r0 arg5_r0 arg6_r0 arg7_r0 arg8_r0 arg9_r0 arg10_r0 k0_hw1 k0_h1 => k0_hw1.1 k0_h1
theorem k0_off4_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h1 : k0_cond1 k0_t1 arg10_r0 = 1#1), ∀ a, (k0_off4 arg4_r0) a + S1x512x256.size a ≤ S2x512x256.size a := fun k0_t1 arg4_r0 arg5_r0 arg6_r0 arg7_r0 arg8_r0 arg9_r0 arg10_r0 k0_hw1 k0_h1 => k0_hw1.2.1 k0_h1
theorem k0_off5_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h1 : k0_cond1 k0_t1 arg10_r0 = 1#1), ∀ a, (k0_off5 arg10_r0) a + S512x256.size a ≤ S1024x256.size a := fun k0_t1 arg4_r0 arg5_r0 arg6_r0 arg7_r0 arg8_r0 arg9_r0 arg10_r0 k0_hw1 k0_h1 => k0_hw1.2.2.1 k0_h1
theorem k0_off6_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h2 : k0_cond2 k0_t1 arg10_r0 = 1#1), ∀ a, (k0_off6 arg6_r0) a + S1.size a ≤ S2.size a := fun k0_t1 arg4_r0 arg5_r0 arg6_r0 arg7_r0 arg8_r0 arg9_r0 arg10_r0 k0_hw1 k0_h2 => k0_hw1.2.2.2.1 k0_h2
theorem k0_off7_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h2 : k0_cond2 k0_t1 arg10_r0 = 1#1), ∀ a, (k0_off7 arg6_r0) a + S1x512x256.size a ≤ S2x512x256.size a := fun k0_t1 arg4_r0 arg5_r0 arg6_r0 arg7_r0 arg8_r0 arg9_r0 arg10_r0 k0_hw1 k0_h2 => k0_hw1.2.2.2.2.1 k0_h2
theorem k0_off8_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h2 : k0_cond2 k0_t1 arg10_r0 = 1#1), ∀ a, (k0_off8 arg10_r0) a + S512x256.size a ≤ S1024x256.size a := fun k0_t1 arg4_r0 arg5_r0 arg6_r0 arg7_r0 arg8_r0 arg9_r0 arg10_r0 k0_hw1 k0_h2 => k0_hw1.2.2.2.2.2.1 k0_h2
theorem k0_off9_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), ∀ a, (k0_off9 arg5_r0) a + S1.size a ≤ S2.size a := fun k0_t1 arg4_r0 arg5_r0 arg6_r0 arg7_r0 arg8_r0 arg9_r0 arg10_r0 k0_hw1 k0_h3 => k0_hw1.2.2.2.2.2.2.1 k0_h3
theorem k0_off10_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), ∀ a, (k0_off10 arg5_r0) a + S1x512x256.size a ≤ S2x512x256.size a := fun k0_t1 arg4_r0 arg5_r0 arg6_r0 arg7_r0 arg8_r0 arg9_r0 arg10_r0 k0_hw1 k0_h3 => k0_hw1.2.2.2.2.2.2.2.1 k0_h3
theorem k0_off11_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), ∀ a, (k0_off11 arg10_r0) a + S512x256.size a ≤ S1024x256.size a := fun k0_t1 arg4_r0 arg5_r0 arg6_r0 arg7_r0 arg8_r0 arg9_r0 arg10_r0 k0_hw1 k0_h3 => k0_hw1.2.2.2.2.2.2.2.2.1 k0_h3
theorem k0_off12_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h4 : k0_cond4 k0_t1 arg10_r0 = 1#1), ∀ a, (k0_off12 arg7_r0) a + S1.size a ≤ S2.size a := fun k0_t1 arg4_r0 arg5_r0 arg6_r0 arg7_r0 arg8_r0 arg9_r0 arg10_r0 k0_hw1 k0_h4 => k0_hw1.2.2.2.2.2.2.2.2.2.1 k0_h4
theorem k0_off13_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h4 : k0_cond4 k0_t1 arg10_r0 = 1#1), ∀ a, (k0_off13 arg7_r0) a + S1x512x256.size a ≤ S2x512x256.size a := fun k0_t1 arg4_r0 arg5_r0 arg6_r0 arg7_r0 arg8_r0 arg9_r0 arg10_r0 k0_hw1 k0_h4 => k0_hw1.2.2.2.2.2.2.2.2.2.2.1 k0_h4
theorem k0_off14_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h4 : k0_cond4 k0_t1 arg10_r0 = 1#1), ∀ a, (k0_off14 arg10_r0) a + S512x256.size a ≤ S1024x256.size a := fun k0_t1 arg4_r0 arg5_r0 arg6_r0 arg7_r0 arg8_r0 arg9_r0 arg10_r0 k0_hw1 k0_h4 => k0_hw1.2.2.2.2.2.2.2.2.2.2.2.1 k0_h4
theorem k0_off18_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h8 : k0_cond8 k0_t1 arg10_r0 = 1#1), ∀ a, (k0_off18 arg8_r0) a + S1.size a ≤ S2.size a := fun k0_t1 arg4_r0 arg5_r0 arg6_r0 arg7_r0 arg8_r0 arg9_r0 arg10_r0 k0_hw1 k0_h8 => k0_hw1.2.2.2.2.2.2.2.2.2.2.2.2.1 k0_h8
theorem k0_off19_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h8 : k0_cond8 k0_t1 arg10_r0 = 1#1), ∀ a, (k0_off19 arg10_r0) a + S512x256.size a ≤ S1024x256.size a := fun k0_t1 arg4_r0 arg5_r0 arg6_r0 arg7_r0 arg8_r0 arg9_r0 arg10_r0 k0_hw1 k0_h8 => k0_hw1.2.2.2.2.2.2.2.2.2.2.2.2.2.1 k0_h8
theorem k0_off20_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h8 : k0_cond8 k0_t1 arg10_r0 = 1#1), ∀ a, (k0_off20 arg8_r0) a + S1x512x256.size a ≤ S2x512x256.size a := fun k0_t1 arg4_r0 arg5_r0 arg6_r0 arg7_r0 arg8_r0 arg9_r0 arg10_r0 k0_hw1 k0_h8 => k0_hw1.2.2.2.2.2.2.2.2.2.2.2.2.2.2.1 k0_h8
theorem k0_off21_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h11 : k0_cond11 k0_t1 arg10_r0 = 1#1), ∀ a, (k0_off21 arg9_r0) a + S1.size a ≤ S2.size a := fun k0_t1 arg4_r0 arg5_r0 arg6_r0 arg7_r0 arg8_r0 arg9_r0 arg10_r0 k0_hw1 k0_h11 => k0_hw1.2.2.2.2.2.2.2.2.2.2.2.2.2.2.2.1 k0_h11
theorem k0_off22_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h11 : k0_cond11 k0_t1 arg10_r0 = 1#1), ∀ a, (k0_off22 arg10_r0) a + S512x256.size a ≤ S1024x256.size a := fun k0_t1 arg4_r0 arg5_r0 arg6_r0 arg7_r0 arg8_r0 arg9_r0 arg10_r0 k0_hw1 k0_h11 => k0_hw1.2.2.2.2.2.2.2.2.2.2.2.2.2.2.2.2.1 k0_h11
theorem k0_off23_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h11 : k0_cond11 k0_t1 arg10_r0 = 1#1), ∀ a, (k0_off23 arg9_r0) a + S1x512x256.size a ≤ S2x512x256.size a := fun k0_t1 arg4_r0 arg5_r0 arg6_r0 arg7_r0 arg8_r0 arg9_r0 arg10_r0 k0_hw1 k0_h11 => k0_hw1.2.2.2.2.2.2.2.2.2.2.2.2.2.2.2.2.2 k0_h11

def k0_off24 (v52_5_r0 : BitVec 32) : Fin 1 → Nat :=
  let c2_i32_64_r0 : BitVec 32 := 2#32
  let v73_r0 : BitVec 32 := Scalar.remui v52_5_r0 c2_i32_64_r0
  ![v73_r0.toNat]

def k0_off25 (v52_6_r0 : BitVec 32) : Fin 2 → Nat :=
  let c512_i32_r0 : BitVec 32 := 512#32
  let true_45_r0 : BitVec 1 := 1#1
  let c1_i32_44_r0 : BitVec 32 := 1#32
  let v53_r0 : BitVec 32 := Scalar.subi v52_6_r0 c1_i32_44_r0
  let v54_r0 : BitVec 32 := Scalar.select true_45_r0 v53_r0 v52_6_r0
  let c_m1_i32_46_r0 : BitVec 32 := 4294967295#32
  let v55_r0 : BitVec 1 := Scalar.cmpi .eq v54_r0 c_m1_i32_46_r0
  let c1_i32_47_r0 : BitVec 32 := 1#32
  let v56_r0 : BitVec 32 := Scalar.select v55_r0 c1_i32_47_r0 v54_r0
  let c0_i32_48_r0 : BitVec 32 := 0#32
  let v57_r0 : BitVec 32 := Scalar.addi v56_r0 c0_i32_48_r0
  let v74_r0 : BitVec 32 := Scalar.muli c512_i32_r0 v57_r0
  let c0_i32_65_r0 : BitVec 32 := 0#32
  ![v74_r0.toNat, 0]

def k0_chk6 (v52_6_r0 : BitVec 32) : Prop :=
  (∀ a, (k0_off25 v52_6_r0) a + S512x256.size a ≤ S1024x256.size a)
theorem k0_off25_inb : ∀ (v52_6_r0 : BitVec 32) (k0_hw6 : k0_chk6 v52_6_r0), ∀ a, (k0_off25 v52_6_r0) a + S512x256.size a ≤ S1024x256.size a := fun v52_6_r0 k0_hw6 => k0_hw6

def k0_off26 (v52_5_r0 : BitVec 32) : Fin 3 → Nat :=
  let c2_i32_64_r0 : BitVec 32 := 2#32
  let v73_r0 : BitVec 32 := Scalar.remui v52_5_r0 c2_i32_64_r0
  let c0_i32_66_r0 : BitVec 32 := 0#32
  let c0_i32_67_r0 : BitVec 32 := 0#32
  ![v73_r0.toNat, 0, 0]

def k0_chk5 (v52_5_r0 : BitVec 32) : Prop :=
  (∀ a, (k0_off24 v52_5_r0) a + S1.size a ≤ S2.size a) ∧
  (∀ a, (k0_off26 v52_5_r0) a + S1x512x256.size a ≤ S2x512x256.size a)
theorem k0_off24_inb : ∀ (v52_5_r0 : BitVec 32) (k0_hw5 : k0_chk5 v52_5_r0), ∀ a, (k0_off24 v52_5_r0) a + S1.size a ≤ S2.size a := fun v52_5_r0 k0_hw5 => k0_hw5.1
theorem k0_off26_inb : ∀ (v52_5_r0 : BitVec 32) (k0_hw5 : k0_chk5 v52_5_r0), ∀ a, (k0_off26 v52_5_r0) a + S1x512x256.size a ≤ S2x512x256.size a := fun v52_5_r0 k0_hw5 => k0_hw5.2
-- ==== ReferenceIdeal.lean ====
abbrev S1024x256 : Shape := ⟨2, ![1024, 256]⟩
abbrev S256x256 : Shape := ⟨2, ![256, 256]⟩
abbrev S_ : Shape := ⟨0, ![]⟩
abbrev S256x256x1 : Shape := ⟨3, ![256, 256, 1]⟩
abbrev S1024x256x256 : Shape := ⟨3, ![1024, 256, 256]⟩

abbrev nBuf : Space → Nat
  | .hbm => 25
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i1⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S256x256x1, .i32⟩
  | .hbm, ⟨12, _⟩ => ⟨S1024x256x256, .f32⟩
  | .hbm, ⟨13, _⟩ => ⟨S_, .i32⟩
  | .hbm, ⟨14, _⟩ => ⟨S256x256, .i32⟩
  | .hbm, ⟨15, _⟩ => ⟨S256x256, .i1⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S256x256x1, .i32⟩
  | .hbm, ⟨21, _⟩ => ⟨S1024x256x256, .f32⟩
  | .hbm, ⟨22, _⟩ => ⟨S1024x256x256, .f32⟩
  | .hbm, ⟨23, _⟩ => ⟨S_, .f32⟩
  | .hbm, ⟨24, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.NamesIdeal.lean ====
/-
  The same for the idealized program. Names of the pieces the two-slot kernel moves: a half of a 1024-row array, a slot of a two-slot buffer, the
  semaphore of a slot; and the equations by which the body's slices, whose offsets are computed from the words the
  loop carries, are these pieces at the words of each trip.
-/
module

public import proofs.«01_k».proof.Proof.Run
public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- The three arrays in HBM and the three two-slot buffers, whole. -/
abbrev aM : Memref sig .tc .hbm S1024x256 .f32 := Memref.whole main_arg0
abbrev bM : Memref sig .tc .hbm S1024x256 .f32 := Memref.whole main_arg1
abbrev oM : Memref sig .tc .hbm S1024x256 .f32 := Memref.whole main_v0
abbrev bufA : Memref sig .tc .vmem S2x512x256 .f32 := Memref.whole cc0_scoped0
abbrev bufB : Memref sig .tc .vmem S2x512x256 .f32 := Memref.whole cc0_scoped2
abbrev bufC : Memref sig .tc .vmem S2x512x256 .f32 := Memref.whole cc0_scoped4

abbrev halfOff (b : Fin 2) : Fin 2 → Nat := ![512 * b.val, 0]
theorem halfOff_inb (b : Fin 2) : ∀ a, halfOff b a + S512x256.size a ≤ S1024x256.size a := by
  revert b; decide
abbrev slotOff (s : Fin 2) : Fin 3 → Nat := ![s.val, 0, 0]
theorem slotOff_inb (s : Fin 2) : ∀ a, slotOff s a + S1x512x256.size a ≤ S2x512x256.size a := by
  revert s; decide
abbrev semOff (s : Fin 2) : Fin 1 → Nat := ![s.val]
theorem semOff_inb (s : Fin 2) : ∀ a, semOff s a + S1.size a ≤ S2.size a := by
  revert s; decide

/-- Rows `512 b … 512 b + 511` of an array in HBM. -/
def half (M : Memref sig .tc .hbm S1024x256 .f32) (b : Fin 2) : Memref sig .tc .hbm S512x256 .f32 :=
  M.slice (Rect.unit (s := S1024x256) (halfOff b) S512x256.size (halfOff_inb b)) (fun _ => rfl)
/-- Slot `s` of a two-slot buffer, as a matrix. -/
def slot (B : Memref sig .tc .vmem S2x512x256 .f32) (s : Fin 2) : Memref sig .tc .vmem S512x256 .f32 :=
  (B.slice (Rect.unit (s := S2x512x256) (slotOff s) S1x512x256.size (slotOff_inb s)) (fun _ => rfl)).squeeze S512x256 squeezes_S1x512x256_S512x256
/-- The semaphore of slot `s` of a pair. -/
def sem (A : DmaSems sig S2) (s : Fin 2) : DmaSems sig S_ :=
  (A.slice (Rect.unit (s := S2) (semOff s) S1.size (semOff_inb s))).squeeze S_ squeezes_S1_S_

instance (b : Fin 2) : ClosedOff (halfOff b) := ⟨halfOff b, rfl⟩
instance (s : Fin 2) : ClosedOff (slotOff s) := ⟨slotOff s, rfl⟩

private theorem half_congr {off : Fin 2 → Nat} {b : Fin 2} (M : Memref sig .tc .hbm S1024x256 .f32) (e : off = halfOff b) (hh hs) :
    M.slice (Rect.unit (s := S1024x256) off S512x256.size hh) hs = half M b :=
  Memref.slice_unit_congr _ e _ _ hs (fun _ => rfl)
private theorem slot_congr {off : Fin 3 → Nat} {s : Fin 2} (B : Memref sig .tc .vmem S2x512x256 .f32) (e : off = slotOff s) (hh hs) :
    (B.slice (Rect.unit (s := S2x512x256) off S1x512x256.size hh) hs).squeeze S512x256 squeezes_S1x512x256_S512x256 = slot B s :=
  congrArg (fun M : Memref sig .tc .vmem S1x512x256 .f32 => M.squeeze S512x256 squeezes_S1x512x256_S512x256) (Memref.slice_unit_congr _ e _ _ _ _)
private theorem sem_congr {off : Fin 1 → Nat} {s : Fin 2} (A : DmaSems sig S2) (e : off = semOff s) (hh) :
    (A.slice (Rect.unit (s := S2) off S1.size hh)).squeeze S_ squeezes_S1_S_ = sem A s :=
  congrArg (fun A : DmaSems sig S1 => A.squeeze S_ squeezes_S1_S_) (SemArray.slice_unit_congr _ e _ _)

/-! ## The offsets at the words of each trip -/

@[sl_canon] theorem halfL (M : Memref sig .tc .hbm S1024x256 .f32) (hh hs) : M.slice (Rect.unit (s := S1024x256) ![0, 0] S512x256.size hh) hs = half M 0 := half_congr M (by decide) _ _
@[sl_canon] theorem sem1 (A : DmaSems sig S2) (hh) : (A.slice (Rect.unit (s := S2) k0_off1 S1.size hh)).squeeze S_ squeezes_S1_S_ = sem A 0 := sem_congr A (by decide) _
@[sl_canon] theorem slot2 (B : Memref sig .tc .vmem S2x512x256 .f32) (hh hs) : (B.slice (Rect.unit (s := S2x512x256) k0_off2 S1x512x256.size hh) hs).squeeze S512x256 squeezes_S1x512x256_S512x256 = slot B 0 := slot_congr B (by decide) _ _

@[sl_canon] theorem sem3_1 (A : DmaSems sig S2) (hh) : (A.slice (Rect.unit (s := S2) (k0_off3 1#32) S1.size hh)).squeeze S_ squeezes_S1_S_ = sem A 1 := sem_congr A (by decide) _
@[sl_canon] theorem slot4_1 (B : Memref sig .tc .vmem S2x512x256 .f32) (hh hs) : (B.slice (Rect.unit (s := S2x512x256) (k0_off4 1#32) S1x512x256.size hh) hs).squeeze S512x256 squeezes_S1x512x256_S512x256 = slot B 1 := slot_congr B (by decide) _ _
@[sl_canon] theorem half5_0 (M : Memref sig .tc .hbm S1024x256 .f32) (hh hs) : M.slice (Rect.unit (s := S1024x256) (k0_off5 0#32) S512x256.size hh) hs = half M 1 := half_congr M (by decide) _ _
@[sl_canon] theorem sem6_1 (A : DmaSems sig S2) (hh) : (A.slice (Rect.unit (s := S2) (k0_off6 1#32) S1.size hh)).squeeze S_ squeezes_S1_S_ = sem A 1 := sem_congr A (by decide) _
@[sl_canon] theorem slot7_1 (B : Memref sig .tc .vmem S2x512x256 .f32) (hh hs) : (B.slice (Rect.unit (s := S2x512x256) (k0_off7 1#32) S1x512x256.size hh) hs).squeeze S512x256 squeezes_S1x512x256_S512x256 = slot B 1 := slot_congr B (by decide) _ _
@[sl_canon] theorem half8_0 (M : Memref sig .tc .hbm S1024x256 .f32) (hh hs) : M.slice (Rect.unit (s := S1024x256) (k0_off8 0#32) S512x256.size hh) hs = half M 1 := half_congr M (by decide) _ _
@[sl_canon] theorem sem9_0 (A : DmaSems sig S2) (hh) : (A.slice (Rect.unit (s := S2) (k0_off9 0#32) S1.size hh)).squeeze S_ squeezes_S1_S_ = sem A 0 := sem_congr A (by decide) _
@[sl_canon] theorem sem9_1 (A : DmaSems sig S2) (hh) : (A.slice (Rect.unit (s := S2) (k0_off9 1#32) S1.size hh)).squeeze S_ squeezes_S1_S_ = sem A 1 := sem_congr A (by decide) _
@[sl_canon] theorem slot10_0 (B : Memref sig .tc .vmem S2x512x256 .f32) (hh hs) : (B.slice (Rect.unit (s := S2x512x256) (k0_off10 0#32) S1x512x256.size hh) hs).squeeze S512x256 squeezes_S1x512x256_S512x256 = slot B 0 := slot_congr B (by decide) _ _
@[sl_canon] theorem slot10_1 (B : Memref sig .tc .vmem S2x512x256 .f32) (hh hs) : (B.slice (Rect.unit (s := S2x512x256) (k0_off10 1#32) S1x512x256.size hh) hs).squeeze S512x256 squeezes_S1x512x256_S512x256 = slot B 1 := slot_congr B (by decide) _ _
@[sl_canon] theorem half11_0 (M : Memref sig .tc .hbm S1024x256 .f32) (hh hs) : M.slice (Rect.unit (s := S1024x256) (k0_off11 0#32) S512x256.size hh) hs = half M 0 := half_congr M (by decide) _ _
@[sl_canon] theorem half11_1 (M : Memref sig .tc .hbm S1024x256 .f32) (hh hs) : M.slice (Rect.unit (s := S1024x256) (k0_off11 1#32) S512x256.size hh) hs = half M 1 := half_congr M (by decide) _ _
@[sl_canon] theorem sem12_0 (A : DmaSems sig S2) (hh) : (A.slice (Rect.unit (s := S2) (k0_off12 0#32) S1.size hh)).squeeze S_ squeezes_S1_S_ = sem A 0 := sem_congr A (by decide) _
@[sl_canon] theorem sem12_1 (A : DmaSems sig S2) (hh) : (A.slice (Rect.unit (s := S2) (k0_off12 1#32) S1.size hh)).squeeze S_ squeezes_S1_S_ = sem A 1 := sem_congr A (by decide) _
@[sl_canon] theorem slot13_0 (B : Memref sig .tc .vmem S2x512x256 .f32) (hh hs) : (B.slice (Rect.unit (s := S2x512x256) (k0_off13 0#32) S1x512x256.size hh) hs).squeeze S512x256 squeezes_S1x512x256_S512x256 = slot B 0 := slot_congr B (by decide) _ _
@[sl_canon] theorem slot13_1 (B : Memref sig .tc .vmem S2x512x256 .f32) (hh hs) : (B.slice (Rect.unit (s := S2x512x256) (k0_off13 1#32) S1x512x256.size hh) hs).squeeze S512x256 squeezes_S1x512x256_S512x256 = slot B 1 := slot_congr B (by decide) _ _
@[sl_canon] theorem half14_0 (M : Memref sig .tc .hbm S1024x256 .f32) (hh hs) : M.slice (Rect.unit (s := S1024x256) (k0_off14 0#32) S512x256.size hh) hs = half M 0 := half_congr M (by decide) _ _
@[sl_canon] theorem half14_1 (M : Memref sig .tc .hbm S1024x256 .f32) (hh hs) : M.slice (Rect.unit (s := S1024x256) (k0_off14 1#32) S512x256.size hh) hs = half M 1 := half_congr M (by decide) _ _
@[sl_canon] theorem sem18_0 (A : DmaSems sig S2) (hh) : (A.slice (Rect.unit (s := S2) (k0_off18 0#32) S1.size hh)).squeeze S_ squeezes_S1_S_ = sem A 0 := sem_congr A (by decide) _
@[sl_canon] theorem sem18_1 (A : DmaSems sig S2) (hh) : (A.slice (Rect.unit (s := S2) (k0_off18 1#32) S1.size hh)).squeeze S_ squeezes_S1_S_ = sem A 1 := sem_congr A (by decide) _
@[sl_canon] theorem half19_0 (M : Memref sig .tc .hbm S1024x256 .f32) (hh hs) : M.slice (Rect.unit (s := S1024x256) (k0_off19 0#32) S512x256.size hh) hs = half M 0 := half_congr M (by decide) _ _
@[sl_canon] theorem half19_1 (M : Memref sig .tc .hbm S1024x256 .f32) (hh hs) : M.slice (Rect.unit (s := S1024x256) (k0_off19 1#32) S512x256.size hh) hs = half M 1 := half_congr M (by decide) _ _
@[sl_canon] theorem slot20_0 (B : Memref sig .tc .vmem S2x512x256 .f32) (hh hs) : (B.slice (Rect.unit (s := S2x512x256) (k0_off20 0#32) S1x512x256.size hh) hs).squeeze S512x256 squeezes_S1x512x256_S512x256 = slot B 0 := slot_congr B (by decide) _ _
@[sl_canon] theorem slot20_1 (B : Memref sig .tc .vmem S2x512x256 .f32) (hh hs) : (B.slice (Rect.unit (s := S2x512x256) (k0_off20 1#32) S1x512x256.size hh) hs).squeeze S512x256 squeezes_S1x512x256_S512x256 = slot B 1 := slot_congr B (by decide) _ _
@[sl_canon] theorem sem21_0 (A : DmaSems sig S2) (hh) : (A.slice (Rect.unit (s := S2) (k0_off21 0#32) S1.size hh)).squeeze S_ squeezes_S1_S_ = sem A 0 := sem_congr A (by decide) _
@[sl_canon] theorem half22_1 (M : Memref sig .tc .hbm S1024x256 .f32) (hh hs) : M.slice (Rect.unit (s := S1024x256) (k0_off22 1#32) S512x256.size hh) hs = half M 0 := half_congr M (by decide) _ _
@[sl_canon] theorem slot23_0 (B : Memref sig .tc .vmem S2x512x256 .f32) (hh hs) : (B.slice (Rect.unit (s := S2x512x256) (k0_off23 0#32) S1x512x256.size hh) hs).squeeze S512x256 squeezes_S1x512x256_S512x256 = slot B 0 := slot_congr B (by decide) _ _
@[sl_canon] theorem sem24_1 (A : DmaSems sig S2) (hh) : (A.slice (Rect.unit (s := S2) (k0_off24 1#32) S1.size hh)).squeeze S_ squeezes_S1_S_ = sem A 1 := sem_congr A (by decide) _
@[sl_canon] theorem half25_0 (M : Memref sig .tc .hbm S1024x256 .f32) (hh hs) : M.slice (Rect.unit (s := S1024x256) (k0_off25 0#32) S512x256.size hh) hs = half M 1 := half_congr M (by decide) _ _
@[sl_canon] theorem slot26_1 (B : Memref sig .tc .vmem S2x512x256 .f32) (hh hs) : (B.slice (Rect.unit (s := S2x512x256) (k0_off26 1#32) S1x512x256.size hh) hs).squeeze S512x256 squeezes_S1x512x256_S512x256 = slot B 1 := slot_congr B (by decide) _ _
instance : ClosedOff (k0_off15 0#32) := ⟨slotOff 0, by decide⟩
instance : ClosedOff (k0_off15 1#32) := ⟨slotOff 1, by decide⟩
instance : ClosedOff (k0_off16 0#32) := ⟨slotOff 0, by decide⟩
instance : ClosedOff (k0_off16 1#32) := ⟨slotOff 1, by decide⟩
instance : ClosedOff (k0_off17 0#32) := ⟨slotOff 0, by decide⟩
instance : ClosedOff (k0_off17 1#32) := ⟨slotOff 1, by decide⟩

end Cert.Proof.KernelIdeal

end
-- ==== Proof.TripsIdeal.lean ====
/-
  The same for the idealized program. One trip of the kernel's loop, at each of the two: what is in flight and what is held before it and after it.
-/
module

public import proofs.«01_k».proof.Proof.NamesIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

section Pieces
variable (c : Dev nD)

/-- A semaphore at zero; -/
abbrev cellP (A : DmaSems sig S2) (s : Fin 2) : sProp 𝕄 := semVal ((c : Thread nD τ), SemLoc.dma (sem A s).sem) 0
/-- a slot held at contents `f`; -/
abbrev slotP (B : Memref sig .tc .vmem S2x512x256 .f32) (s : Fin 2) (f : Buf (Elt F) ((slot B s).view.loc (c : Thread nD τ))) : sProp 𝕄 :=
  (slot B s).view.loc (c : Thread nD τ) ↦[(slot B s).view.set]{fullShare} f
/-- a half of an array held at contents `g`. -/
abbrev halfP (M : Memref sig .tc .hbm S1024x256 .f32) (b : Fin 2) (g : Buf (Elt F) ((half M b).view.loc (c : Thread nD τ))) : sProp 𝕄 :=
  (half M b).view.loc (c : Thread nD τ) ↦[(half M b).view.set]{fullShare} g

/-- What a transfer of half `b` of `M` leaves in slot `s` of `B`, issued over `f`. -/
abbrev landedIn (M : Memref sig .tc .hbm S1024x256 .f32) (b : Fin 2) (X : Buf (Elt F) ((half M b).view.loc (c : Thread nD τ)))
    (B : Memref sig .tc .vmem S2x512x256 .f32) (s : Fin 2) (f : Buf (Elt F) ((slot B s).view.loc (c : Thread nD τ))) : Buf (Elt F) ((slot B s).view.loc (c : Thread nD τ)) :=
  (slot B s).view.writes (Elt F) f [⟨Rect.whole S512x256, ReadAs.same.apply ((half M b).view.read (Elt F) X)⟩]
/-- What a transfer of slot `s` of `B`, holding `f`, leaves in half `b` of `M`, issued over `g`. -/
abbrev landedOut (B : Memref sig .tc .vmem S2x512x256 .f32) (s : Fin 2) (f : Buf (Elt F) ((slot B s).view.loc (c : Thread nD τ)))
    (M : Memref sig .tc .hbm S1024x256 .f32) (b : Fin 2) (g : Buf (Elt F) ((half M b).view.loc (c : Thread nD τ))) : Buf (Elt F) ((half M b).view.loc (c : Thread nD τ)) :=
  (half M b).view.writes (Elt F) g [⟨Rect.whole S512x256, ReadAs.same.apply ((slot B s).view.read (Elt F) f)⟩]

/-- The units one transfer moves on its semaphore (`View.amount`, evaluated). -/
abbrev NN : ℕ := 16384

/-- Half `b` of `M` in flight to slot `s` of `B`. -/
abbrev flightIn (A : DmaSems sig S2) (M : Memref sig .tc .hbm S1024x256 .f32) (b : Fin 2) (X : Buf (Elt F) ((half M b).view.loc (c : Thread nD τ)))
    (B : Memref sig .tc .vmem S2x512x256 .f32) (s : Fin 2) (f : Buf (Elt F) ((slot B s).view.loc (c : Thread nD τ))) : sProp 𝕄 :=
  Transfers.Flight countersEmb (c : Thread nD τ) (SemLoc.dma (sem A s).sem) () NN iprop(slotP c B s (landedIn c M b X B s f) ∗ halfP c M b X)
/-- Slot `s` of `B` in flight to half `b` of `M`. -/
abbrev flightOut (A : DmaSems sig S2) (B : Memref sig .tc .vmem S2x512x256 .f32) (s : Fin 2) (f : Buf (Elt F) ((slot B s).view.loc (c : Thread nD τ)))
    (M : Memref sig .tc .hbm S1024x256 .f32) (b : Fin 2) (g : Buf (Elt F) ((half M b).view.loc (c : Thread nD τ))) : sProp 𝕄 :=
  Transfers.Flight countersEmb (c : Thread nD τ) (SemLoc.dma (sem A s).sem) () NN iprop(halfP c M b (landedOut c B s f M b g) ∗ slotP c B s f)

end Pieces

section Trip
variable (c : Dev nD) (XA : Buf (Elt F) (aM.view.loc (c : Thread nD τ))) (XB : Buf (Elt F) (bM.view.loc (c : Thread nD τ)))

abbrev A1 : DmaSems sig S2 := cc0_scoped1
abbrev A3 : DmaSems sig S2 := cc0_scoped3
abbrev A5 : DmaSems sig S2 := cc0_scoped5

/-- Half `b` of `M` with a leading axis of size one: what the body loads from the slot the half has landed in. -/
def loaded (M : Memref sig .tc .hbm S1024x256 .f32) (X : Buf (Elt F) (M.view.loc (c : Thread nD τ))) (b : Fin 2) : Vec F S1x512x256 .f32 :=
  fun y => (half M b).view.read (Elt F) X ((Shape.reshapeEquiv squeezes_S1x512x256_S512x256.numel_eq).symm y)
/-- What the kernel computes for half `b`: its payload of the two loaded halves, the leading axis dropped. -/
def outBlk (b : Fin 2) : S512x256.Idx → Elt F .f32 :=
  fun i => k0_pay2 (F := F) k0_pay3 k0_pay4 (k0_pay1 (loaded c aM XA b)) (loaded c bM XB b) (Shape.reshapeEquiv squeezes_S1x512x256_S512x256.numel_eq i)

/-- A view written whole reads as what was written. -/
theorem read_writes_one {κ : Kind} {sp : Space} (v : View sig κ sp S512x256 .f32) (f : v.ty.Contents (Elt F)) (w : S512x256.Idx → Elt F .f32) :
    v.read (Elt F) (v.writes (Elt F) f [⟨Rect.whole S512x256, w⟩]) = w := by
  funext x
  have h := View.read_slice_write_emb (v := v) (Val := Elt F) (Rect.whole S512x256) f w (Finset.mem_univ x)
  rwa [Rect.emb_whole_apply] at h

/-- A load of slot `s` through the whole buffer, after half `b` of `M` has landed in it, reads that half. -/
theorem load_landed (M : Memref sig .tc .hbm S1024x256 .f32) (X : Buf (Elt F) (M.view.loc (c : Thread nD τ))) (b : Fin 2)
    (B : Memref sig .tc .vmem S2x512x256 .f32) (s : Fin 2) (f : Buf (Elt F) ((slot B s).view.loc (c : Thread nD τ)))
    {off : Fin 3 → Nat} (e : off = slotOff s) (hh) :
    B.view.readAt (Elt F) (Rect.unit (s := S2x512x256) off S1x512x256.size hh).toLoadRect (landedIn c M b X B s f) = loaded c M X b := by
  subst e
  have h : (slot B s).view.read (Elt F) (landedIn c M b X B s f) = (half M b).view.read (Elt F) X := read_writes_one _ _ _
  funext y
  have := congrFun h ((Shape.reshapeEquiv squeezes_S1x512x256_S512x256.numel_eq).symm y)
  unfold loaded
  rw [← this]
  show (B.view.slice (Rect.unit (s := S2x512x256) (slotOff s) S1x512x256.size hh)).read (Elt F) (landedIn c M b X B s f) y
    = (B.view.slice (Rect.unit (s := S2x512x256) (slotOff s) S1x512x256.size hh)).read (Elt F) (landedIn c M b X B s f)
      ((Shape.reshapeEquiv squeezes_S1x512x256_S512x256.numel_eq) ((Shape.reshapeEquiv squeezes_S1x512x256_S512x256.numel_eq).symm y))
  exact congrArg _ (Equiv.apply_symm_apply (Shape.reshapeEquiv squeezes_S1x512x256_S512x256.numel_eq) y).symm

/-- A slot written whole through the whole buffer reads as what was written, the leading axis dropped. -/
theorem slot_stored (B : Memref sig .tc .vmem S2x512x256 .f32) (s : Fin 2) (f : Buf (Elt F) ((slot B s).view.loc (c : Thread nD τ)))
    {off : Fin 3 → Nat} (e : off = slotOff s) (hh) (w : S1x512x256.Idx → Elt F .f32) :
    (slot B s).view.read (Elt F) ((B.access (Rect.unit (s := S2x512x256) off S1x512x256.size hh)).write (Elt F) f w Finset.univ)
      = fun i => w (Shape.reshapeEquiv squeezes_S1x512x256_S512x256.numel_eq i) := by
  subst e
  funext i
  exact congrFun (View.read_write_univ (v := B.view.slice (Rect.unit (s := S2x512x256) (slotOff s) S1x512x256.size hh)) (Val := Elt F) f w) _

/-- A half a slot has been copied out to reads as the slot did. -/
theorem half_landed (B : Memref sig .tc .vmem S2x512x256 .f32) (s : Fin 2) (f : Buf (Elt F) ((slot B s).view.loc (c : Thread nD τ)))
    (M : Memref sig .tc .hbm S1024x256 .f32) (b : Fin 2) (g : Buf (Elt F) ((half M b).view.loc (c : Thread nD τ))) :
    (half M b).view.read (Elt F) (landedOut c B s f M b g) = (slot B s).view.read (Elt F) f := read_writes_one _ _ _

/-- A slot held at anything; -/
abbrev anySlot (B : Memref sig .tc .vmem S2x512x256 .f32) (s : Fin 2) : sProp 𝕄 := iprop(∃ f, slotP (F := F) c B s f)
/-- half `b` of the result held at anything; -/
abbrev anyOut (b : Fin 2) : sProp 𝕄 := iprop(∃ g, halfP (F := F) c oM b g)
/-- half `b` of the result held, computed; -/
abbrev doneP (b : Fin 2) : sProp 𝕄 := iprop(∃ g, ⌜(half oM b).view.read (Elt F) g = outBlk c XA XB b⌝ ∗ halfP c oM b g)
/-- half `b` of `M` on its way into slot `b` of `B`; -/
abbrev inP (A : DmaSems sig S2) (M : Memref sig .tc .hbm S1024x256 .f32) (X : Buf (Elt F) (M.view.loc (c : Thread nD τ)))
    (B : Memref sig .tc .vmem S2x512x256 .f32) (b : Fin 2) : sProp 𝕄 := iprop(∃ f, flightIn c A M b X B b f)
/-- half `b` of the result computed in slot `b` and on its way out. -/
abbrev outP (b : Fin 2) : sProp 𝕄 :=
  iprop(∃ f, ∃ g, ⌜(slot bufC b).view.read (Elt F) f = outBlk c XA XB b⌝ ∗ flightOut c A5 bufC b f oM b g)

/-- Before the first trip: the first halves of both operands in flight. -/
def res0 : sProp 𝕄 := iprop((∃ W, owes (c : Thread nD τ) 0 W) ∗ inP c A1 aM XA bufA 0 ∗ inP c A3 bM XB bufB 0
  ∗ halfP c aM 1 XA ∗ halfP c bM 1 XB ∗ anySlot c bufA 1 ∗ anySlot c bufB 1 ∗ anySlot c bufC 0 ∗ anySlot c bufC 1
  ∗ anyOut c 0 ∗ anyOut c 1 ∗ cellP c A1 1 ∗ cellP c A3 1 ∗ cellP c A5 0 ∗ cellP c A5 1)
/-- Between the trips: the second halves in flight, the first half of the result on its way out. -/
def res1 : sProp 𝕄 := iprop((∃ W, owes (c : Thread nD τ) 0 W) ∗ inP c A1 aM XA bufA 1 ∗ inP c A3 bM XB bufB 1
  ∗ halfP c aM 0 XA ∗ halfP c bM 0 XB ∗ anySlot c bufA 0 ∗ anySlot c bufB 0 ∗ outP c XA XB 0 ∗ anySlot c bufC 1
  ∗ anyOut c 1 ∗ cellP c A1 0 ∗ cellP c A3 0 ∗ cellP c A5 1)
/-- After the second trip: the first half of the result home, the second on its way out. -/
def res2 : sProp 𝕄 := iprop((∃ W, owes (c : Thread nD τ) 0 W) ∗ halfP c aM 0 XA ∗ halfP c aM 1 XA ∗ halfP c bM 0 XB ∗ halfP c bM 1 XB
  ∗ anySlot c bufA 0 ∗ anySlot c bufA 1 ∗ anySlot c bufB 0 ∗ anySlot c bufB 1 ∗ anySlot c bufC 0
  ∗ doneP c XA XB 0 ∗ outP c XA XB 1 ∗ cellP c A1 0 ∗ cellP c A1 1 ∗ cellP c A3 0 ∗ cellP c A3 1 ∗ cellP c A5 0)

/-- The loop's region on the kernel's own buffers and semaphores. -/
abbrev tripG (k : Fin k0_t1_loop.trips) (acc : BitVec 32 × BitVec 32 × BitVec 32 × BitVec 32 × BitVec 32 × BitVec 32 × BitVec 32) :
    Prog (TpuEff nD τ sig (Elt F) Λ₀ .tc) (BitVec 32 × BitVec 32 × BitVec 32 × BitVec 32 × BitVec 32 × BitVec 32 × BitVec 32) :=
  k0_t1_body (F := F) aM (Memref.isWhole_whole _) bM (Memref.isWhole_whole _) oM (Memref.isWhole_whole _) bufA (Memref.isWhole_whole _) A1
    bufB (Memref.isWhole_whole _) A3 bufC (Memref.isWhole_whole _) A5 k0_pay3 k0_pay4 0#32 2#32 k acc

theorem trips_eq : k0_t1_loop.trips = 2 := by decide
abbrev k0 : Fin k0_t1_loop.trips := ⟨0, by decide⟩
abbrev k1 : Fin k0_t1_loop.trips := ⟨1, by decide⟩

set_option maxHeartbeats 4000000 in
/-- THE FIRST TRIP: issue the second halves, wait for the first, compute, send the first half of the result out. -/
theorem trip0 :
    res0 c XA XB ⊢ wp frame (wpE (defs₀ (F := F)) 𝒱₀ (c : Thread nD τ) none) Set.univ (tripG k0 (1#32, 0#32, 1#32, 0#32, 0#32, 0#32, 0#32))
      (fun acc => iprop(⌜acc = (2#32, 1#32, 2#32, 1#32, 1#32, 0#32, 1#32)⌝ ∗ res1 c XA XB)) := by
  unfold res0 res1
  iintro ⟨⟨%W, HW⟩, ⟨%fA, HFA⟩, ⟨%fB, HFB⟩, HA1, HB1, ⟨%fA1, HsA⟩, ⟨%fB1, HsB⟩, ⟨%fC, HsC⟩, HsC1, ⟨%g0, Ho⟩, Ho1, Hc1, Hc3, Hc5, Hc51⟩
  dsimp only [tripG]
  sl_unfold [k0_t1_body]
  sl_exec
  sl_step
  isplitr
  · ipureintro; rfl
  isplitl [HW]; · iexists _; iexact HW
  isplitl [Hc1]; · iexists fA1; iexact Hc1
  isplitl [Hc3]; · iexists fB1; iexact Hc3
  isplitl [HFA_src]; · iexact HFA_src
  isplitl [HFB_src]; · iexact HFB_src
  isplitl [HFA_dst]; · iexists _; iexact HFA_dst
  isplitl [HFB_dst]; · iexists _; iexact HFB_dst
  isplitl [Hc5]
  · iexists (trip0.sl.HsC_w1 c XA XB fC), g0
    isplitr
    · ipureintro
      refine (slot_stored c bufC 0 fC rfl _ _).trans ?_
      unfold outBlk
      rw [← load_landed c aM XA 0 bufA 0 (slot bufA 0).view.junk (off := ![0, 0, 0]) rfl (slotOff_inb 0),
        ← load_landed c bM XB 0 bufB 0 (slot bufB 0).view.junk (off := ![0, 0, 0]) rfl (slotOff_inb 0)]
      rfl
    iexact Hc5
  isplitl [HsC1]; · iexact HsC1
  isplitl [Ho1]; · iexact Ho1
  isplitl [HFA]; · iexact HFA
  isplitl [HFB]; · iexact HFB
  iexact Hc51

set_option maxHeartbeats 4000000 in
/-- THE SECOND TRIP: wait for the second halves, compute, send the second half of the result out, wait for the first. -/
theorem trip1 :
    res1 c XA XB ⊢ wp frame (wpE (defs₀ (F := F)) 𝒱₀ (c : Thread nD τ) none) Set.univ (tripG k1 (2#32, 1#32, 2#32, 1#32, 1#32, 0#32, 1#32))
      (fun acc => iprop(⌜acc = (2#32, 2#32, 2#32, 2#32, 2#32, 1#32, 0#32)⌝ ∗ res2 c XA XB)) := by
  unfold res1 res2
  iintro ⟨⟨%W, HW⟩, ⟨%fA, HFA⟩, ⟨%fB, HFB⟩, HA0, HB0, HsA, HsB, ⟨%f0, %g0, %h0, HFO⟩, ⟨%fC, HsC⟩, ⟨%g1, Ho1⟩, Hc1, Hc3, Hc5⟩
  dsimp only [tripG]
  sl_unfold [k0_t1_body]
  sl_exec
  sl_step
  isplitr
  · ipureintro; rfl
  isplitl [HW]; · iexists _; iexact HW
  isplitl [HA0]; · iexact HA0
  isplitl [HFA_src]; · iexact HFA_src
  isplitl [HB0]; · iexact HB0
  isplitl [HFB_src]; · iexact HFB_src
  isplitl [HsA]; · iexact HsA
  isplitl [HFA_dst]; · iexists _; iexact HFA_dst
  isplitl [HsB]; · iexact HsB
  isplitl [HFB_dst]; · iexists _; iexact HFB_dst
  isplitl [HFO_src]; · iexists f0; iexact HFO_src
  isplitl [HFO_dst]
  · iexists _
    isplitr
    · ipureintro; exact (half_landed c bufC 0 f0 oM 0 g0).trans h0
    iexact HFO_dst
  isplitl [Hc5]
  · iexists (trip1.sl.HsC_w1 c XA XB fC), g1
    isplitr
    · ipureintro
      refine (slot_stored c bufC 1 fC rfl _ _).trans ?_
      unfold outBlk
      rw [← load_landed c aM XA 1 bufA 1 (slot bufA 1).view.junk (off := ![1, 0, 0]) rfl (slotOff_inb 1),
        ← load_landed c bM XB 1 bufB 1 (slot bufB 1).view.junk (off := ![1, 0, 0]) rfl (slotOff_inb 1)]
      rfl
    iexact Hc5
  isplitl [Hc1]; · iexact Hc1
  isplitl [HFA]; · iexact HFA
  isplitl [Hc3]; · iexact Hc3
  isplitl [HFB]; · iexact HFB
  iexact HFO

/-- What is held before trip `k` (before trip 2: at the loop's exit), and the words the loop carries then. -/
def resAt : ℕ → sProp 𝕄
  | 0 => res0 c XA XB
  | 1 => res1 c XA XB
  | _ => res2 c XA XB
def words : ℕ → BitVec 32 × BitVec 32 × BitVec 32 × BitVec 32 × BitVec 32 × BitVec 32 × BitVec 32
  | 0 => (1#32, 0#32, 1#32, 0#32, 0#32, 0#32, 0#32)
  | 1 => (2#32, 1#32, 2#32, 1#32, 1#32, 0#32, 1#32)
  | _ => (2#32, 2#32, 2#32, 2#32, 2#32, 1#32, 0#32)

/-- A trip proved at given words is proved at words known to equal them. -/
theorem trip_at (k : Fin k0_t1_loop.trips) (acc w : BitVec 32 × BitVec 32 × BitVec 32 × BitVec 32 × BitVec 32 × BitVec 32 × BitVec 32)
    (R : sProp 𝕄) (Q : BitVec 32 × BitVec 32 × BitVec 32 × BitVec 32 × BitVec 32 × BitVec 32 × BitVec 32 → sProp 𝕄)
    (h : R ⊢ wp frame (wpE (defs₀ (F := F)) 𝒱₀ (c : Thread nD τ) none) Set.univ (tripG k w) Q) :
    iprop(⌜acc = w⌝ ∗ R) ⊢ wp frame (wpE (defs₀ (F := F)) 𝒱₀ (c : Thread nD τ) none) Set.univ (tripG k acc) Q := by
  iintro ⟨%hacc, H⟩
  subst hacc
  iapply h; iexact H

/-- One trip from `words k` and `resAt k` gives `words (k + 1)` and `resAt (k + 1)`. -/
theorem trip (k : Fin k0_t1_loop.trips) (acc : BitVec 32 × BitVec 32 × BitVec 32 × BitVec 32 × BitVec 32 × BitVec 32 × BitVec 32) :
    iprop(⌜acc = words k.val⌝ ∗ resAt c XA XB k.val) ⊢ wp frame (wpE (defs₀ (F := F)) 𝒱₀ (c : Thread nD τ) none) Set.univ (tripG k acc)
      (fun acc' => iprop(⌜acc' = words (k.val + 1)⌝ ∗ resAt c XA XB (k.val + 1))) := by
  have hk : k.val < 2 := Nat.lt_of_lt_of_eq k.isLt trips_eq
  have h01 : k.val = 0 ∨ k.val = 1 := by omega
  rcases h01 with h | h
  · obtain rfl : k = k0 := Fin.ext h
    exact trip_at c _ acc _ _ _ (trip0 c XA XB)
  · obtain rfl : k = k1 := Fin.ext h
    exact trip_at c _ acc _ _ _ (trip1 c XA XB)

/-- What is held at the loop's entry. -/
theorem resAt_zero : resAt c XA XB 0 = res0 c XA XB := rfl
/-- The words the loop leaves and what is held then. -/
theorem words_end : words (Scf.trips k0_t1_loop.lb k0_t1_loop.ub k0_t1_loop.st) = (2#32, 2#32, 2#32, 2#32, 2#32, 1#32, 0#32) :=
  congrArg words trips_eq
theorem resAt_end : resAt c XA XB (Scf.trips k0_t1_loop.lb k0_t1_loop.ub k0_t1_loop.st) = res2 c XA XB :=
  congrArg (resAt c XA XB) trips_eq

end Trip

section Body
variable (c : Dev nD) (XA : Buf (Elt F) (aM.view.loc (c : Thread nD τ))) (XB : Buf (Elt F) (bM.view.loc (c : Thread nD τ)))

/-- The kernel on its own buffers and semaphores. -/
abbrev bodyG : Prog (TpuEff nD τ sig (Elt F) Λ₀ .tc) PUnit :=
  cc0__xor_conv_body aM (Memref.isWhole_whole _) bM (Memref.isWhole_whole _) oM (Memref.isWhole_whole _) bufA (Memref.isWhole_whole _) A1
    bufB (Memref.isWhole_whole _) A3 bufC (Memref.isWhole_whole _) A5

/-- The six slots at anything, the six semaphores at zero: held before the kernel and after it. -/
abbrev ownP : sProp 𝕄 :=
  iprop(anySlot (F := F) c bufA 0 ∗ anySlot (F := F) c bufA 1 ∗ anySlot (F := F) c bufB 0 ∗ anySlot (F := F) c bufB 1 ∗ anySlot (F := F) c bufC 0 ∗ anySlot (F := F) c bufC 1
    ∗ cellP (F := F) c A1 0 ∗ cellP (F := F) c A1 1 ∗ cellP (F := F) c A3 0 ∗ cellP (F := F) c A3 1 ∗ cellP (F := F) c A5 0 ∗ cellP (F := F) c A5 1)
/-- The four halves of the operands. -/
abbrev insP : sProp 𝕄 := iprop(halfP c aM 0 XA ∗ halfP c aM 1 XA ∗ halfP c bM 0 XB ∗ halfP c bM 1 XB)

/-- THE KERNEL: from the operands, the result's halves at anything, its buffers and semaphores, to the same with the
    result's halves computed. -/
theorem bodyRun (W : Waits sig Unit) (Q : PUnit → sProp 𝕄) :
    iprop((insP c XA XB ∗ anyOut (F := F) c 0 ∗ anyOut (F := F) c 1 ∗ ownP c ∗ owes (c : Thread nD τ) 0 W)
        ∗ ((insP c XA XB ∗ doneP c XA XB 0 ∗ doneP c XA XB 1 ∗ ownP c ∗ ∃ W, owes (c : Thread nD τ) 0 W) -∗ Q ⟨⟩))
      ⊢ wp frame (wpE (defs₀ (F := F)) 𝒱₀ (c : Thread nD τ) none) Set.univ bodyG Q := by
  iintro ⟨⟨⟨HA0, HA1, HB0, HB1⟩, Ho0, Ho1, ⟨⟨%fA0, HsA0⟩, HsA1, ⟨%fB0, HsB0⟩, HsB1, HsC0, HsC1, Hc10, Hc11, Hc30, Hc31, Hc50, Hc51⟩, HW⟩, Hk⟩
  sl_exec
  sl_for (fun k acc => iprop(⌜acc = words k⌝ ∗ resAt c XA XB k)) $$ [HA1 HB1 Ho0 Ho1 HsA1 HsB1 HsC0 HsC1 Hc10 Hc11 Hc30 Hc31 Hc50 Hc51 HW]
  case region => exact fun k acc => trip c XA XB k acc
  · isplitr; · ipureintro; rfl
    rw [resAt_zero]
    unfold res0
    isplitl [HW]; · iexists _; iexact HW
    isplitl [Hc10]; · iexists fA0; iexact Hc10
    isplitl [Hc30]; · iexists fB0; iexact Hc30
    isplitl [HA1]; · iexact HA1
    isplitl [HB1]; · iexact HB1
    isplitl [HsA1]; · iexact HsA1
    isplitl [HsB1]; · iexact HsB1
    isplitl [HsC0]; · iexact HsC0
    isplitl [HsC1]; · iexact HsC1
    isplitl [Ho0]; · iexact Ho0
    isplitl [Ho1]; · iexact Ho1
    isplitl [Hc11]; · iexact Hc11
    isplitl [Hc31]; · iexact Hc31
    isplitl [Hc50]; · iexact Hc50
    iexact Hc51
  iintro %acc ⟨%hacc, H⟩
  rw [words_end] at hacc
  subst hacc
  ihave H2 := (Entails.of_eq (resAt_end c XA XB)) $$ H
  unfold res2
  icases H2 with ⟨⟨%W', HW⟩, HA0, HA1, HB0, HB1, HsA0, HsA1, HsB0, HsB1, HsC0, HD0, ⟨%f1, %g1, %h1, HFO⟩, Hc10, Hc11, Hc30, Hc31, Hc50⟩
  sl_exec
  sl_step
  iapply Hk
  isplitl [HA0 HA1 HB0 HB1]
  · isplitl [HA0]; · iexact HA0
    isplitl [HA1]; · iexact HA1
    isplitl [HB0]; · iexact HB0
    iexact HB1
  isplitl [HD0]; · iexact HD0
  isplitl [HFO_dst]
  · iexists _
    isplitr
    · ipureintro; exact (half_landed c bufC 1 f1 oM 1 g1).trans h1
    iexact HFO_dst
  isplitr [HW]
  · isplitl [HsA0]; · iexact HsA0
    isplitl [HsA1]; · iexact HsA1
    isplitl [HsB0]; · iexact HsB0
    isplitl [HsB1]; · iexact HsB1
    isplitl [HsC0]; · iexact HsC0
    isplitl [HFO_src]; · iexists f1; iexact HFO_src
    isplitl [Hc10]; · iexact Hc10
    isplitl [Hc11]; · iexact Hc11
    isplitl [Hc30]; · iexact Hc30
    isplitl [Hc31]; · iexact Hc31
    isplitl [Hc50]; · iexact Hc50
    iexact HFO
  iexists _; iexact HW

end Body

end Cert.Proof.KernelIdeal

end
-- ==== Proof.RunIdeal.lean ====
/-
  The same for the idealized program. The whole program: at launch the arrays and buffers are cut into halves and slots, the kernel runs on them, and the
  final memory is read off what it leaves.
-/
module

public import proofs.«01_k».proof.Proof.TripsIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
abbrev EP : Emb (UR sig nD τ) (MT nD τ sig Unit (Elt F) ℕ (UU nD τ) ℕ) := embL

variable (m : (ℓ : Loc nD τ sig) → Buf (Elt F) ℓ) (ρ : Dev nD → PrngReg)

/-! ## Halves and slots as element sets -/

abbrev halfSet (b : Fin 2) : Finset S1024x256.Idx := (Rect.unit (s := S1024x256) (halfOff b) S512x256.size (halfOff_inb b)).set
abbrev slotSet (s : Fin 2) : Finset S2x512x256.Idx := (Rect.unit (s := S2x512x256) (slotOff s) S1x512x256.size (slotOff_inb s)).set

/-- Half `b` is the rows whose number divided by 512 is `b`; -/
theorem mem_halfSet (b : Fin 2) (y : S1024x256.Idx) : y ∈ halfSet b ↔ (y 0).val / 512 = b.val := by
  have h1 : (y 1).val < 256 := (y 1).isLt
  rw [Rect.mem_set_unit]
  constructor
  · intro H
    have a0 : 512 * b.val ≤ (y 0).val ∧ (y 0).val < 512 * b.val + 512 := H 0
    omega
  · intro H i
    fin_cases i
    · show 512 * b.val ≤ (y 0).val ∧ (y 0).val < 512 * b.val + 512
      omega
    · show 0 ≤ (y 1).val ∧ (y 1).val < 0 + 256
      omega
/-- slot `s` is the elements whose first coordinate is `s`. -/
theorem mem_slotSet (s : Fin 2) (y : S2x512x256.Idx) : y ∈ slotSet s ↔ (y 0).val = s.val := by
  have h1 : (y 1).val < 512 := (y 1).isLt
  have h2 : (y 2).val < 256 := (y 2).isLt
  rw [Rect.mem_set_unit]
  constructor
  · intro H
    have a0 : s.val ≤ (y 0).val ∧ (y 0).val < s.val + 1 := H 0
    omega
  · intro H i
    fin_cases i
    · show s.val ≤ (y 0).val ∧ (y 0).val < s.val + 1
      omega
    · show 0 ≤ (y 1).val ∧ (y 1).val < 0 + 512
      omega
    · show 0 ≤ (y 2).val ∧ (y 2).val < 0 + 256
      omega

/-- Sets told apart by a number attached to each element are disjoint, and cover when every element's number occurs. -/
theorem disjoint_of_key {α : Type} [DecidableEq α] (I : Fin 2 → Finset α) (key : α → ℕ) (h : ∀ b y, y ∈ I b ↔ key y = b.val) :
    ∀ b b' : Fin 2, b ≠ b' → Disjoint (I b) (I b') := fun b b' hne =>
  Finset.disjoint_left.mpr fun y hy hy' => hne (Fin.ext (((h b y).mp hy).symm.trans ((h b' y).mp hy')))
theorem cover_of_key {α : Type} [DecidableEq α] [Fintype α] (I : Fin 2 → Finset α) (key : α → ℕ) (h : ∀ b y, y ∈ I b ↔ key y = b.val)
    (hk : ∀ y, key y < 2) : (Finset.univ : Finset (Fin 2)).biUnion I = Finset.univ := by
  ext y
  simp only [Finset.mem_biUnion, Finset.mem_univ, true_and, iff_true]
  exact ⟨⟨key y, hk y⟩, (h _ y).mpr rfl⟩

theorem halfSet_disjoint : ∀ b b' : Fin 2, b ≠ b' → Disjoint (halfSet b) (halfSet b') := disjoint_of_key halfSet _ mem_halfSet
theorem halfSet_cover : (Finset.univ : Finset (Fin 2)).biUnion halfSet = Finset.univ :=
  cover_of_key halfSet _ mem_halfSet fun y => by have : (y 0).val < 1024 := (y 0).isLt; omega
theorem slotSet_disjoint : ∀ b b' : Fin 2, b ≠ b' → Disjoint (slotSet b) (slotSet b') := disjoint_of_key slotSet _ mem_slotSet
theorem slotSet_cover : (Finset.univ : Finset (Fin 2)).biUnion slotSet = Finset.univ :=
  cover_of_key slotSet _ mem_slotSet fun y => (y 0).isLt

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ

theorem half_set_a (b : Fin 2) : (half aM b).view.set = halfSet b := View.set_slice_whole _ _
/-- `main_arg0` whole is its two halves. -/
theorem halves_a (c : Dev nD) (X : Buf (Elt F) ((c : Thread nD τ).loc main_arg0)) :
    (((c : Thread nD τ).loc main_arg0) ↦{fullShare} X : sProp 𝕄) = iprop(halfP c aM 0 X ∗ halfP c aM 1 X) := by
  rw [Ring.pointsTo_blocks (ℓ := (c : Thread nD τ).loc main_arg0) halfSet halfSet_disjoint halfSet_cover, bigSep_two]
  unfold halfP
  rw [half_set_a 0, half_set_a 1]
  rfl

theorem half_set_b (b : Fin 2) : (half bM b).view.set = halfSet b := View.set_slice_whole _ _
/-- `main_arg1` whole is its two halves. -/
theorem halves_b (c : Dev nD) (X : Buf (Elt F) ((c : Thread nD τ).loc main_arg1)) :
    (((c : Thread nD τ).loc main_arg1) ↦{fullShare} X : sProp 𝕄) = iprop(halfP c bM 0 X ∗ halfP c bM 1 X) := by
  rw [Ring.pointsTo_blocks (ℓ := (c : Thread nD τ).loc main_arg1) halfSet halfSet_disjoint halfSet_cover, bigSep_two]
  unfold halfP
  rw [half_set_b 0, half_set_b 1]
  rfl

theorem half_set_o (b : Fin 2) : (half oM b).view.set = halfSet b := View.set_slice_whole _ _
/-- `main_v0` whole is its two halves. -/
theorem halves_o (c : Dev nD) (X : Buf (Elt F) ((c : Thread nD τ).loc main_v0)) :
    (((c : Thread nD τ).loc main_v0) ↦{fullShare} X : sProp 𝕄) = iprop(halfP c oM 0 X ∗ halfP c oM 1 X) := by
  rw [Ring.pointsTo_blocks (ℓ := (c : Thread nD τ).loc main_v0) halfSet halfSet_disjoint halfSet_cover, bigSep_two]
  unfold halfP
  rw [half_set_o 0, half_set_o 1]
  rfl

theorem slot_set_A (s : Fin 2) : (slot bufA s).view.set = slotSet s := (View.set_reshape _ _).trans (View.set_slice_whole _ _)
theorem slotP_A (c : Dev nD) (s : Fin 2) (f) : slotP c bufA s f = (((c : Thread nD τ).loc cc0_scoped0) ↦[slotSet s]{fullShare} f : sProp 𝕄) :=
  congrArg (fun S => (_ ↦[S]{fullShare} f : sProp 𝕄)) (slot_set_A s)
/-- `cc0_scoped0` held whole at anything is its two slots held at anything; -/
theorem split_A (c : Dev nD) :
    iprop(∃ f : Buf (Elt F) ((c : Thread nD τ).loc cc0_scoped0), ((c : Thread nD τ).loc cc0_scoped0) ↦{fullShare} f)
      ⊢ (iprop(anySlot c bufA 0 ∗ anySlot c bufA 1) : sProp 𝕄) := by
  iintro ⟨%f, H⟩
  ihave H2 := (Entails.of_eq ((Ring.pointsTo_blocks (Ix := Unit) (Name := ℕ) (U := UU nD τ) (Lvl := ℕ) (q := fullShare)
    (ℓ := (c : Thread nD τ).loc cc0_scoped0) slotSet slotSet_disjoint slotSet_cover f).trans (bigSep_two _))) $$ H
  icases H2 with ⟨H0, H1⟩
  isplitl [H0]
  · iexists f; iapply (Entails.of_eq (slotP_A c 0 f).symm); iexact H0
  · iexists f; iapply (Entails.of_eq (slotP_A c 1 f).symm); iexact H1
/-- and back. -/
theorem join_A (c : Dev nD) :
    iprop(anySlot c bufA 0 ∗ anySlot c bufA 1)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) slotSet slotSet_disjoint slotSet_cover f0)
  irw [bigSep_two]
  isplitl [H0]
  · iexists f0; iapply (Entails.of_eq (slotP_A c 0 f0)); iexact H0
  · iexists f1; iapply (Entails.of_eq (slotP_A c 1 f1)); iexact H1

theorem slot_set_B (s : Fin 2) : (slot bufB s).view.set = slotSet s := (View.set_reshape _ _).trans (View.set_slice_whole _ _)
theorem slotP_B (c : Dev nD) (s : Fin 2) (f) : slotP c bufB s f = (((c : Thread nD τ).loc cc0_scoped2) ↦[slotSet s]{fullShare} f : sProp 𝕄) :=
  congrArg (fun S => (_ ↦[S]{fullShare} f : sProp 𝕄)) (slot_set_B s)
/-- `cc0_scoped2` held whole at anything is its two slots held at anything; -/
theorem split_B (c : Dev nD) :
    iprop(∃ f : Buf (Elt F) ((c : Thread nD τ).loc cc0_scoped2), ((c : Thread nD τ).loc cc0_scoped2) ↦{fullShare} f)
      ⊢ (iprop(anySlot c bufB 0 ∗ anySlot c bufB 1) : sProp 𝕄) := by
  iintro ⟨%f, H⟩
  ihave H2 := (Entails.of_eq ((Ring.pointsTo_blocks (Ix := Unit) (Name := ℕ) (U := UU nD τ) (Lvl := ℕ) (q := fullShare)
    (ℓ := (c : Thread nD τ).loc cc0_scoped2) slotSet slotSet_disjoint slotSet_cover f).trans (bigSep_two _))) $$ H
  icases H2 with ⟨H0, H1⟩
  isplitl [H0]
  · iexists f; iapply (Entails.of_eq (slotP_B c 0 f).symm); iexact H0
  · iexists f; iapply (Entails.of_eq (slotP_B c 1 f).symm); iexact H1
/-- and back. -/
theorem join_B (c : Dev nD) :
    iprop(anySlot c bufB 0 ∗ anySlot c bufB 1)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) slotSet slotSet_disjoint slotSet_cover f0)
  irw [bigSep_two]
  isplitl [H0]
  · iexists f0; iapply (Entails.of_eq (slotP_B c 0 f0)); iexact H0
  · iexists f1; iapply (Entails.of_eq (slotP_B c 1 f1)); iexact H1

theorem slot_set_C (s : Fin 2) : (slot bufC s).view.set = slotSet s := (View.set_reshape _ _).trans (View.set_slice_whole _ _)
theorem slotP_C (c : Dev nD) (s : Fin 2) (f) : slotP c bufC s f = (((c : Thread nD τ).loc cc0_scoped4) ↦[slotSet s]{fullShare} f : sProp 𝕄) :=
  congrArg (fun S => (_ ↦[S]{fullShare} f : sProp 𝕄)) (slot_set_C s)
/-- `cc0_scoped4` held whole at anything is its two slots held at anything; -/
theorem split_C (c : Dev nD) :
    iprop(∃ f : Buf (Elt F) ((c : Thread nD τ).loc cc0_scoped4), ((c : Thread nD τ).loc cc0_scoped4) ↦{fullShare} f)
      ⊢ (iprop(anySlot c bufC 0 ∗ anySlot c bufC 1) : sProp 𝕄) := by
  iintro ⟨%f, H⟩
  ihave H2 := (Entails.of_eq ((Ring.pointsTo_blocks (Ix := Unit) (Name := ℕ) (U := UU nD τ) (Lvl := ℕ) (q := fullShare)
    (ℓ := (c : Thread nD τ).loc cc0_scoped4) slotSet slotSet_disjoint slotSet_cover f).trans (bigSep_two _))) $$ H
  icases H2 with ⟨H0, H1⟩
  isplitl [H0]
  · iexists f; iapply (Entails.of_eq (slotP_C c 0 f).symm); iexact H0
  · iexists f; iapply (Entails.of_eq (slotP_C c 1 f).symm); iexact H1
/-- and back. -/
theorem join_C (c : Dev nD) :
    iprop(anySlot c bufC 0 ∗ anySlot c bufC 1)
      ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) slotSet slotSet_disjoint slotSet_cover f0)
  irw [bigSep_two]
  isplitl [H0]
  · iexists f0; iapply (Entails.of_eq (slotP_C c 0 f0)); iexact H0
  · iexists f1; iapply (Entails.of_eq (slotP_C c 1 f1)); iexact H1

/-! ## The kernel's own semaphores -/

/-- The six semaphores of the three pairs. -/
abbrev osem : Fin 6 → SemLoc sig := fun
  | ⟨0, _⟩ => .dma (sem A1 0).sem
  | ⟨1, _⟩ => .dma (sem A1 1).sem
  | ⟨2, _⟩ => .dma (sem A3 0).sem
  | ⟨3, _⟩ => .dma (sem A3 1).sem
  | ⟨4, _⟩ => .dma (sem A5 0).sem
  | ⟨_, _⟩ => .dma (sem A5 1).sem
theorem ownSemFacts : Pipeline.OwnSemFacts cfg0.spec osem := by decide

omit [FloatOps F] in
/-- They at zero are the three pairs at zero. -/
theorem ownSems0_eq (c : Dev nD) : (Pipeline.ownSems0 (Ix := Unit) (Name := ℕ) (U := UU nD τ) (Lvl := ℕ) (Val := Elt F) (τ := τ) osem c : sProp 𝕄)
    = iprop(cellP c A1 0 ∗ cellP c A1 1 ∗ cellP c A3 0 ∗ cellP c A3 1 ∗ cellP c A5 0 ∗ cellP c A5 1) := by
  unfold Pipeline.ownSems0
  exact bigSep_univ_eq_bigSepL [(0 : Fin 6), 1, 2, 3, 4, 5] (by decide) (by decide) _

/-! ## What the one point of the launch starts from and leaves -/

/-- The operands as launched. -/
abbrev XA (c : Dev nD) : Buf (Elt F) (aM.view.loc (c : Thread nD τ)) := m ((c : Thread nD τ).loc main_arg0)
abbrev XB (c : Dev nD) : Buf (Elt F) (bM.view.loc (c : Thread nD τ)) := m ((c : Thread nD τ).loc main_arg1)

/-- Before the kernel; -/
def pre (c : Dev nD) : sProp 𝕄 := iprop(insP c (XA m c) (XB m c) ∗ anyOut (F := F) c 0 ∗ anyOut (F := F) c 1 ∗ ownP c)
/-- and after it. -/
def post (c : Dev nD) : sProp 𝕄 :=
  iprop(insP c (XA m c) (XB m c) ∗ doneP c (XA m c) (XB m c) 0 ∗ doneP c (XA m c) (XB m c) 1 ∗ ownP c)

/-- What is held after `n` points. -/
def phase (c : Dev nD) : ℕ → sProp 𝕄
  | 0 => pre m c
  | _ + 1 => post m c

/-- The launch's data: no windows, what is held before the point and after it. -/
def dats (_ : Fin 1) (c : Dev nD) : Dat τ (Elt F) Unit ℕ (UU nD τ) ℕ cfg0 c where
  A w := w.elim0
  after w := w.elim0
  Φ t := phase m c t.val
  q _ := fullShare
  owed _ := 0

theorem Φ_start (c : Dev nD) (t : Fin cfg0.N) : (dats m 0 c).Φ t.castSucc = pre m c := by
  have h : t.val = 0 := by
    have e := fin_N0 t
    rw [e]; rfl
  show phase m c t.val = _
  rw [h]; rfl
theorem Φ_succ (c : Dev nD) (t : Fin cfg0.N) : (dats m 0 c).Φ t.succ = post m c := rfl
theorem Φ_last (c : Dev nD) : (dats m 0 c).Φ (Fin.last cfg0.N) = post m c := by
  show phase m c grid0.N = _
  rw [N_0]; rfl

theorem defs_tc : (defs₀ (F := F)) .tc cfg0.body = fun a => bodyG := rfl
theorem prog_eq (t : Fin cfg0.N) : (defs₀ (F := F)) .tc cfg0.body (cfg0.bodyArgs t (cfg0.slots t)) = bodyG :=
  (congrFun defs_tc _).trans rfl

set_option backward.isDefEq.respectTransparency.types false in
/-- The kernel at the launch's one point. -/
theorem body_obligation (c : Dev nD) : BodyObligation (dats (F := F) m 0 c) (defs₀ (F := F)) 𝒱₀ () Set.univ := fun t => by
  rw [show (Finset.univ : Finset (Fin cfg0.W)) = ∅ from rfl, bigSep_empty, bigSep_empty]
  rw [Φ_start, Φ_succ]
  unfold Dat.owesAt Pipeline.owesWithin
  rw [show (dats m 0 c).owed t.castSucc = 0 from rfl, show (dats m 0 c).owed t.succ = 0 from rfl]
  unfold pre post
  iintro ⟨⟨Hi, Ho0, Ho1, Hown⟩, ⟨%W, -, HW⟩, -⟩
  sl_rw [prog_eq t]
  iapply (bodyRun c (XA m c) (XB m c) W)
  isplitl [Hi Ho0 Ho1 Hown HW]
  · isplitl [Hi]; · iexact Hi
    isplitl [Ho0]; · iexact Ho0
    isplitl [Ho1]; · iexact Ho1
    isplitl [Hown]; · iexact Hown
    iexact HW
  · iintro ⟨Hi, Hd0, Hd1, Hown, ⟨%W', HW⟩⟩
    isplitl [Hi Hd0 Hd1 Hown]
    · isplitl [Hi]; · iexact Hi
      isplitl [Hd0]; · iexact Hd0
      isplitl [Hd1]; · iexact Hd1
      iexact Hown
    isplitl [HW]
    · iexists W'; isplitr; · ipureintro; exact fun _ _ => Or.inl trivial
      iexact HW
    iempintro

/-! ## The run -/

def intoΦ (c : Dev nD) : sProp 𝕄 :=
  iprop(insP c (XA m c) (XB m c) ∗ anyOut (F := F) c 0 ∗ anyOut (F := F) c 1 ∗ Pipeline.ownSems0 osem c)
def outOfΦ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ doneP c (XA m c) (XB m c) 0 ∗ doneP c (XA m c) (XB m c) 1)
def aside (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))
def u₀ : UU nD τ := (initOf (Pipeline.cells cfgs cellOf_inj) (Pipeline.launchToks cfgs cellOf_inj), 1)

/-- What the final memory holds on a core: the arguments as launched, each half of the result as computed. -/
def Final (c : Dev nD) (s : MemSt nD τ sig (Elt F)) : Prop :=
  (∀ b : Fin 2, (half oM b).view.read (Elt F) (s.mem ((c : Thread nD τ).loc main_v0)) = outBlk c (XA m c) (XB m c) b)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)

set_option backward.isDefEq.respectTransparency.types false in
/-- THE RUN: from any memory with zero counters, every weakly fair execution terminates, and every final state has the
    arguments unchanged, the result's halves computed and every semaphore counter at zero. -/
theorem run_main : θ_run defs (onTc (τ := τ) (main (F := F))) ⟨m, fun _ => 0, ρ⟩ (fun r => (∀ c, Final m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := aside m)
    (hX := fun c => by
      rw [unscopedRest0_eq, halves_a, halves_b, halves_o]
      unfold intoΦ aside
      iintro ⟨⟨⟨HA0, HA1⟩, ⟨HB0, HB1⟩, H2, H3, ⟨HO0, HO1⟩⟩, HS, -, -, -⟩
      imodintro
      isplitr [H2 H3]
      · isplitl [HA0 HA1 HB0 HB1]
        · isplitl [HA0]; · iexact HA0
          isplitl [HA1]; · iexact HA1
          isplitl [HB0]; · iexact HB0
          iexact HB1
        isplitl [HO0]; · iexists _; iexact HO0
        isplitl [HO1]; · iexists _; iexact HO1
        iexact HS
      isplitl [H2]; · iexact H2
      iexact H3)
    (hin := fun c => by
      rw [scopedRest0_eq, show (dats m 0 c).Φ 0 = pre m c from rfl]
      unfold intoΦ pre; rw [ownSems0_eq]
      iintro ⟨⟨Hi, Ho0, Ho1, ⟨Hc10, Hc11, Hc30, Hc31, Hc50, Hc51⟩⟩, HA, HB, HC⟩
      ihave HA' := (split_A c) $$ HA
      ihave HB' := (split_B c) $$ HB
      ihave HC' := (split_C c) $$ HC
      icases HA' with ⟨HA0, HA1⟩
      icases HB' with ⟨HB0, HB1⟩
      icases HC' with ⟨HC0, HC1⟩
      isplitl [Hi]; · iexact Hi
      isplitl [Ho0]; · iexact Ho0
      isplitl [Ho1]; · iexact Ho1
      isplitl [HA0]; · iexact HA0
      isplitl [HA1]; · iexact HA1
      isplitl [HB0]; · iexact HB0
      isplitl [HB1]; · iexact HB1
      isplitl [HC0]; · iexact HC0
      isplitl [HC1]; · iexact HC1
      isplitl [Hc10]; · iexact Hc10
      isplitl [Hc11]; · iexact Hc11
      isplitl [Hc30]; · iexact Hc30
      isplitl [Hc31]; · iexact Hc31
      isplitl [Hc50]; · iexact Hc50
      iexact Hc51)
    (hout := fun c => by
      rw [scopedRest0_eq, show (dats m 0 c).Φ (Fin.last (cfgs 0).N) = post m c from Φ_last m c, ownSems0_eq]
      unfold post outOfΦ; rw [halves_a, halves_b]
      iintro ⟨⟨Ha0, Ha1, Hb0, Hb1⟩, Hd0, Hd1, ⟨HA0, HA1, HB0, HB1, HC0, HC1, Hc10, Hc11, Hc30, Hc31, Hc50, Hc51⟩⟩
      isplitl [Ha0 Ha1 Hb0 Hb1 Hd0 Hd1]
      · isplitl [Ha0 Ha1]
        · isplitl [Ha0]; · iexact Ha0
          iexact Ha1
        isplitl [Hb0 Hb1]
        · isplitl [Hb0]; · iexact Hb0
          iexact Hb1
        isplitl [Hd0]; · iexact Hd0
        iexact Hd1
      isplitl [Hc10 Hc11 Hc30 Hc31 Hc50 Hc51]
      · isplitl [Hc10]; · iexact Hc10
        isplitl [Hc11]; · iexact Hc11
        isplitl [Hc30]; · iexact Hc30
        isplitl [Hc31]; · iexact Hc31
        isplitl [Hc50]; · iexact Hc50
        iexact Hc51
      isplitl [HA0 HA1]
      · iapply (join_A c)
        isplitl [HA0]; · iexact HA0
        iexact HA1
      isplitl [HB0 HB1]
      · iapply (join_B c)
        isplitl [HB0]; · iexact HB0
        iexact HB1
      iapply (join_C c)
      isplitl [HC0]; · iexact HC0
      iexact HC1)
    (QY := Final m)
    (hY := fun c s' => by
      unfold outOfΦ aside
      iintro ⟨⟨H0, H1, ⟨%g0, %hg0, Hd0⟩, ⟨%g1, %hg1, Hd1⟩⟩, ⟨H2, H3⟩, HSI⟩
      icombine HSI H0 gives %h0
      icombine HSI H1 gives %h1
      icombine HSI H2 gives %h2
      icombine HSI H3 gives %h3
      icombine HSI Hd0 gives %k0
      icombine HSI Hd1 gives %k1
      imodintro
      isplitr
      · ipureintro
        refine ⟨fun b => ?_, Buf.eq_of_forall_mem_univ h0, Buf.eq_of_forall_mem_univ h1, Buf.eq_of_forall_mem_univ h2, Buf.eq_of_forall_mem_univ h3⟩
        match b with
        | 0 => exact (View.read_congr k0).trans hg0
        | 1 => exact (View.read_congr k1).trans hg1
      iexact HSI)
    (hQ := fun _ hh hz => ⟨fun c => (hh c).2, hz⟩)

end Cert.Proof.KernelIdeal

end
-- ==== Proof.Signs.lean ====
/-
The table of signs and the convolution it diagonalises.

The kernel's table has at row `a`, column `b` the sign of the parity of the bits `a` and `b`
share. The signs are the characters of the group of 8-bit words under exclusive or, so
transforming two rows, multiplying, and transforming back gives their exclusive-or convolution.
-/
module

public import Mathlib.Algebra.BigOperators.Ring.Finset
public import Mathlib.Algebra.BigOperators.Group.Finset.Sigma
public import Mathlib.Algebra.BigOperators.Field
public import Mathlib.Data.Real.Basic
public import Mathlib.Tactic.Ring
public import Mathlib.Tactic.FieldSimp
public import Mathlib.Tactic.Linarith

@[expose] public section

namespace Cert.Proof

open scoped BigOperators

/-- A word whose lowest bit is the parity of the low eight bits of `x`. -/
def folded (x : BitVec 32) : BitVec 32 :=
  let y := x ^^^ x.sshiftRight 4
  let z := y ^^^ y.sshiftRight 2
  z ^^^ z.sshiftRight 1

/-- Whether the parity of `x` is odd. -/
def odd (x : BitVec 32) : Bool := (folded x).getLsbD 0

/-- Folding distributes over exclusive or. -/
theorem folded_xor (x y : BitVec 32) : folded (x ^^^ y) = folded x ^^^ folded y := by
  simp only [folded, BitVec.sshiftRight_xor_distrib]
  ac_rfl

/-- The parity of an exclusive or is the exclusive or of the parities. -/
theorem odd_xor (x y : BitVec 32) : odd (x ^^^ y) = (odd x ^^ odd y) := by
  simp only [odd, folded_xor, BitVec.getLsbD_xor]

/-- The sign of a parity. -/
def sgn (p : Bool) : ℝ := if p then -1 else 1

/-- The sign of an exclusive or is the product of the signs. -/
theorem sgn_xor (p q : Bool) : sgn (p ^^ q) = sgn p * sgn q := by
  cases p <;> cases q <;> simp [sgn]

/-- One less twice the parity bit, read as a number, is the sign. -/
theorem toInt_sign (x : BitVec 32) :
    (((1#32 - 2#32 * (folded x &&& 1#32)).toInt : ℤ) : ℝ) = sgn (odd x) := by
  have h : folded x &&& 1#32 = if odd x then 1#32 else 0#32 := by
    rw [BitVec.and_one_eq_setWidth_ofBool_getLsbD]
    show BitVec.setWidth 32 (BitVec.ofBool (odd x)) = _
    cases odd x <;> rfl
  rw [h]
  cases odd x
  · have : (1#32 - 2#32 * (if false = true then 1#32 else 0#32)).toInt = 1 := by decide
    rw [this]; simp [sgn]
  · have : (1#32 - 2#32 * (if true = true then 1#32 else 0#32)).toInt = -1 := by decide
    rw [this]; simp [sgn]

/-- A class number as a word. -/
def word (a : Fin 256) : BitVec 32 := BitVec.ofNat 32 a.val

/-- The sign at row `a`, column `b`. -/
noncomputable def sg (a b : Fin 256) : ℝ := sgn (odd (word a &&& word b))

/-- The exclusive or of two class numbers. -/
def xr (a b : Fin 256) : Fin 256 := ⟨a.val ^^^ b.val, Nat.xor_lt_two_pow (n := 8) a.isLt b.isLt⟩

/-- The word of an exclusive or. -/
theorem word_xr (a b : Fin 256) : word (xr a b) = word a ^^^ word b := by
  show BitVec.ofNat 32 (a.val ^^^ b.val) = _
  exact BitVec.ofNat_xor

/-- An exclusive or taken twice with the same number gives back the first. -/
theorem xr_cancel (a b : Fin 256) : xr (xr a b) b = a :=
  Fin.ext (by show (a.val ^^^ b.val) ^^^ b.val = a.val; rw [Nat.xor_assoc, Nat.xor_self, Nat.xor_zero])

/-- Two classes differ by zero only when equal. -/
theorem xr_eq_zero {a b : Fin 256} : xr a b = 0 ↔ a = b := by
  constructor
  · intro h
    have := xr_cancel a b
    rw [h] at this
    rw [← this]
    exact Fin.ext (Nat.zero_xor _)
  · rintro rfl
    exact Fin.ext (Nat.xor_self _)

/-- The table is symmetric. -/
theorem sg_comm (a b : Fin 256) : sg a b = sg b a := by
  unfold sg; rw [BitVec.and_comm]

/-- A column is multiplicative in the row number. -/
theorem sg_xr (a b k : Fin 256) : sg (xr a b) k = sg a k * sg b k := by
  unfold sg
  rw [word_xr, ← sgn_xor, ← odd_xor]
  congr 2
  ext i hi
  simp [Bool.and_xor_distrib_right]

/-- Row zero has only ones. -/
theorem sg_zero (k : Fin 256) : sg 0 k = 1 := by
  unfold sg
  have : word 0 = 0#32 := rfl
  rw [this, BitVec.zero_and]
  have h : odd 0#32 = false := by decide
  rw [h]; simp [sgn]

/-- Each row but row zero has a minus sign. -/
theorem exists_odd : ∀ d : Fin 256, d ≠ 0 → ∃ t : Fin 8,
    odd (word d &&& word ⟨2 ^ t.val, Nat.pow_lt_pow_right (by decide) t.isLt⟩) = true := by
  decide +kernel

/-- The rows' sums: the size of the group at row zero, zero at the others. -/
theorem sum_sg (d : Fin 256) : ∑ k, sg d k = if d = 0 then 256 else 0 := by
  split
  · next h => subst h; simp [sg_zero]
  · next h =>
    obtain ⟨t, ht⟩ := exists_odd d h
    generalize he : (⟨2 ^ t.val, Nat.pow_lt_pow_right (by decide) t.isLt⟩ : Fin 256) = e at ht
    have hs : sg d e = -1 := by unfold sg; rw [ht]; simp [sgn]
    have h1 : ∑ k, sg d k = ∑ k, sg d (xr k e) :=
      (Function.Bijective.sum_comp
        (Function.Involutive.bijective (f := fun k => xr k e) (fun k => xr_cancel k e))
        (fun k => sg d k)).symm
    have h2 : ∑ k, sg d (xr k e) = - ∑ k, sg d k := by
      rw [← Finset.sum_neg_distrib]
      refine Finset.sum_congr rfl fun k _ => ?_
      rw [sg_comm, sg_xr, sg_comm k, sg_comm e, hs]; ring
    linarith

/-- Three rows of the table multiplied and summed: not zero only when the third is the
exclusive or of the first two. -/
theorem sum_three (a b c : Fin 256) :
    ∑ k, sg a k * sg b k * sg c k = if b = xr a c then 256 else 0 := by
  have h : ∀ k, sg a k * sg b k * sg c k = sg (xr (xr a c) b) k := fun k => by
    rw [sg_xr, sg_xr]; ring
  rw [Finset.sum_congr rfl fun k _ => h k, sum_sg]
  have : (xr (xr a c) b = 0) ↔ b = xr a c := by rw [xr_eq_zero]; exact eq_comm
  simp only [this]

/-- Transform, multiply, transform back, with the table divided by 256: the exclusive-or
convolution. -/
theorem convolution (u v : Fin 256 → ℝ) (c : Fin 256) :
    ∑ k, (∑ a, u a * sg a k) * (∑ b, v b * sg b k) * (sg k c * (1 / 256)) =
      ∑ j, u j * v (xr j c) := by
  have h : ∀ k, (∑ a, u a * sg a k) * (∑ b, v b * sg b k) * (sg k c * (1 / 256)) =
      ∑ a, ∑ b, u a * v b * (1 / 256) * (sg a k * sg b k * sg c k) := fun k => by
    rw [Finset.sum_mul_sum, Finset.sum_mul]
    refine Finset.sum_congr rfl fun a _ => ?_
    rw [Finset.sum_mul]
    refine Finset.sum_congr rfl fun b _ => ?_
    rw [sg_comm k c]; ring
  rw [Finset.sum_congr rfl fun k _ => h k, Finset.sum_comm]
  refine Finset.sum_congr rfl fun a _ => ?_
  rw [Finset.sum_comm]
  have h2 : ∀ b, ∑ k, u a * v b * (1 / 256) * (sg a k * sg b k * sg c k) =
      if b = xr a c then u a * v b else 0 := fun b => by
    rw [← Finset.mul_sum, sum_three]
    split
    · ring
    · ring
  rw [Finset.sum_congr rfl fun b _ => h2 b]
  simp

end Cert.Proof

end
-- ==== Proof.ReferenceValue.lean ====
/-
  The reference's result at an index, for tables holding the column number and its exclusive or with the row number:
  the exclusive-or convolution of the two rows of scores.
-/
module

public import proofs.«01_k».proof.Proof.Signs
public import proofs.«01_k».proof.Proof.Gen.ReferenceIdeal
public import Idealize.ShloMosaic.PureOps.Ideal.Laws
public import Idealize.ShloMosaic.Lib.ValueIdx
public import Idealize.ShloMosaic.Lib.IdealHost

@[expose] public section

noncomputable section

namespace Cert.Proof

open Cert.ReferenceIdeal Cert.ReferenceIdeal.Gen
open Idealize.ShloMosaic Idealize.ShloMosaic.ValueIdx
open scoped BigOperators

/-- The exclusive-or convolution of the rows of two arrays of scores. -/
def conv (A B : S1024x256.Idx → EReal) (i : S1024x256.Idx) : EReal :=
  ∑ j : Fin 256, A (ix2 (i 0) j) * B (ix2 (i 0) (xr j (i 1)))

/-- The index of a table's entry among the start indices. -/
abbrev startAt (y : S1024x256x256.Idx) : S256x256x1.Idx := ix3 (y 1) (y 2) 0

/-- The dimension numbers of the reference's two gathers. -/
abbrev gd : GatherDims S1024x256 S256x256x1 S1024x256x256 := gather_S1024x256_S256x256x1_S1024x256x256_0_1_n_n_1_2_10241

/-- The columns gathered at a start index: the row is kept, the column is the start index clamped. -/
theorem gather_columns {α : Type} (x : S1024x256.Idx → α) (idx : IVec S256x256x1 32) (y : S1024x256x256.Idx) :
    Host.gather gd x idx y = x (ix2 (y 0) ⟨min (idx (startAt y)).toInt.toNat 255, by omega⟩) := by
  unfold Host.gather
  congr 1
  funext a
  refine Fin.ext ?_
  show gd.start y idx a + gd.batchCoord y a + gd.offCoord y a = _
  rw [GatherDims.batchCoord_eq_zero _ _ _ List.not_mem_nil, Nat.add_zero]
  obtain rfl | rfl : a = (0 : Fin 2) ∨ a = (1 : Fin 2) := by revert a; decide
  · unfold GatherDims.start
    rw [dif_neg (by decide), Nat.zero_add]
    unfold GatherDims.offCoord
    rw [dif_pos (by decide)]
    rfl
  · rw [GatherDims.offCoord_eq_zero _ _ _ (by decide), Nat.add_zero]
    unfold GatherDims.start
    rw [dif_pos (by decide)]
    have hsi : gd.siIdx y ⟨List.idxOf (1 : Fin 2) gd.startIndexMap, by decide⟩ = startAt y := by
      funext b; refine Fin.ext ?_
      match b with
      | ⟨0, _⟩ => rfl
      | ⟨1, _⟩ => rfl
      | ⟨2, _⟩ => rfl
    exact congrArg (fun z => min (idx z).toInt.toNat 255) hsi

/-- A class number's word read signed is the class number. -/
theorem word_toInt (a : Fin 256) : (word a).toInt = a.val := by
  have := a.isLt
  unfold word
  rw [BitVec.toInt_ofNat', Int.bmod_eq_of_le] <;> omega

/-- The columns gathered at a table of class numbers: no entry is negative, so the table is read as it is, and none is
clamped. -/
theorem gather_table {α : Type} (x : S1024x256.Idx → α) (tab : IVec S256x256 32) (col : S256x256.Idx → Fin 256)
    (h : ∀ i, tab i = word (col i)) (y : S1024x256x256.Idx) :
    Host.gather gd x (broadcastInDim S256x256x1 ![0, 1] bcast_S256x256_S256x256x1_0_1
      (select (cmpi .slt tab (broadcastInDim S256x256 ![] bcast_S_S256x256 (constantI S_ 32 0#32)))
        (addi tab (broadcastInDim S256x256 ![] bcast_S_S256x256 (constantI S_ 32 256#32))) tab)) y =
      x (ix2 (y 0) (col (ix2 (y 1) (y 2)))) := by
  have hb : ∀ v : IVec S256x256 32, broadcastInDim S256x256x1 ![0, 1] bcast_S256x256_S256x256x1_0_1 v (startAt y) =
      v (ix2 (y 1) (y 2)) := fun v => by
    unfold broadcastInDim
    congr 1
    funext a
    match a with
    | ⟨0, _⟩ => rfl
    | ⟨1, _⟩ => rfl
  have hs : (word (col (ix2 (y 1) (y 2)))).slt 0#32 = false := by
    rw [BitVec.slt_eq_decide, word_toInt]
    simp
  rw [gather_columns]
  refine congrArg (fun k => x (ix2 (y 0) k)) (Fin.ext ?_)
  dsimp only
  rw [hb]
  show min (Scalar.select (BitVec.ofBool ((tab (ix2 (y 1) (y 2))).slt 0#32)) _ (tab (ix2 (y 1) (y 2)))).toInt.toNat 255 = _
  rw [h, hs]
  show min (word (col (ix2 (y 1) (y 2)))).toInt.toNat 255 = _
  rw [word_toInt]
  have := (col (ix2 (y 1) (y 2))).isLt
  omega

/-- The reference's result, when the tables hold the column number and its exclusive or with the row number. -/
theorem reference_value (A B : FVec Ideal S1024x256 .f32) (t1 t2 : IVec S256x256 32)
    (h1 : ∀ i, t1 i = word (i 1)) (h2 : ∀ i, t2 i = word (xr (i 1) (i 0))) :
    Host.reduceAdd (mulf
      (Host.gather gd A (broadcastInDim S256x256x1 ![0, 1] bcast_S256x256_S256x256x1_0_1
        (select (cmpi .slt t1 (broadcastInDim S256x256 ![] bcast_S_S256x256 (constantI S_ 32 0#32)))
          (addi t1 (broadcastInDim S256x256 ![] bcast_S_S256x256 (constantI S_ 32 256#32))) t1)))
      (Host.gather gd B (broadcastInDim S256x256x1 ![0, 1] bcast_S256x256_S256x256x1_0_1
        (select (cmpi .slt t2 (broadcastInDim S256x256 ![] bcast_S_S256x256 (constantI S_ 32 0#32)))
          (addi t2 (broadcastInDim S256x256 ![] bcast_S_S256x256 (constantI S_ 32 256#32))) t2))))
      (constant S_ .f32 0x00000000#32) reducesTo_S1024x256x256_S1024x256_d2 h_S_ = conv A B := by
  funext i
  have hr : S1024x256x256.Reduces [2] S1024x256 := by decide
  rw [hostReduceAdd_apply, Ideal.hostReduceAdd_single _ hr]
  show Ideal.ofBits .f32 0x00000000#32 + _ = _
  rw [Ideal.ofBits_zero_f32, zero_add]
  unfold conv
  refine Finset.sum_congr rfl fun j _ => ?_
  rw [mulf_apply, gather_table A t1 (fun i => i 1) h1, gather_table B t2 (fun i => xr (i 1) (i 0)) h2]
  rfl

end Cert.Proof

end
-- ==== Proof.KernelValue.lean ====
/-
  The kernel's result at an index: the two rows of scores transformed by the table of signs, multiplied, and transformed
  back; for finite scores, their exclusive-or convolution.
-/
module

public import proofs.«01_k».proof.Proof.RunIdeal
public import proofs.«01_k».proof.Proof.ReferenceValue
public import Idealize.ShloMosaic.Lib.MatmulPlain

@[expose] public section

noncomputable section

namespace Cert.Proof.KernelIdeal

open Cert.KernelIdeal Cert.KernelIdeal.Gen
open Idealize.ShloMosaic Idealize.ShloMosaic.TcCoe Idealize.ShloMosaic.ValueIdx
open scoped BigOperators

/-- The kernel's table at an index is the sign. -/
theorem table_apply (a b : Fin 256) : k0_pay3 (F := Ideal) (ix2 a b) = ((sg a b : ℝ) : EReal) := by
  have h1 : ∀ x : BitVec 32, IntOp.shrsi .vector x 4#32 = x.sshiftRight 4 := fun x => rfl
  have h2 : ∀ x : BitVec 32, IntOp.shrsi .vector x 2#32 = x.sshiftRight 2 := fun x => rfl
  have h3 : ∀ x : BitVec 32, IntOp.shrsi .vector x 1#32 = x.sshiftRight 1 := fun x => rfl
  have e0 : iota .tc S256x256 32 [0] iota_S256x256_d0_w32 (ix2 a b) = word a := by
    show BitVec.ofNat 32 (0 * 256 + a.val) = _
    rw [Nat.zero_mul, Nat.zero_add]; rfl
  have e1 : iota .tc S256x256 32 [1] iota_S256x256_d1_w32 (ix2 a b) = word b := by
    show BitVec.ofNat 32 (0 * 256 + b.val) = _
    rw [Nat.zero_mul, Nat.zero_add]; rfl
  refine Eq.trans ?_ (congrArg (fun r : ℝ => (r : EReal)) (toInt_sign (word a &&& word b)))
  unfold k0_pay3 folded
  show (((IntOp.subi 1#32 (IntOp.muli 2#32 (IntOp.andi (IntOp.xori _ (IntOp.shrsi .vector _ 1#32)) 1#32))).toInt : ℝ) : EReal) = _
  simp only [xori, andi, shrsi, IntOp.xori, IntOp.andi, IntOp.subi, IntOp.muli, broadcast, h1, h2, h3, e0, e1]

/-- The scale is one part in 256. -/
theorem scale : Ideal.ofBits .bf16 0x3B80#16 = (((1 : ℝ) / 256 : ℝ) : EReal) := by
  simp [Ideal.ofBits, Ideal.ieee, -EReal.coe_mul]; norm_num

/-- The scaled table at an index. -/
theorem scaled_apply (a b : Fin 256) : k0_pay4 (F := Ideal) (ix2 a b) = ((sg a b * (1 / 256) : ℝ) : EReal) := by
  show k0_pay3 (F := Ideal) (ix2 a b) * Ideal.ofBits .bf16 0x3B80#16 = _
  rw [table_apply, scale, EReal.coe_mul]

/-- A product by a table, at an index. -/
theorem product_apply (l : FVec Ideal S512x256 .bf16) (t : FVec Ideal S256x256 .bf16) (r : Fin 512) (k : Fin 256) :
    matmul dot_S512x256_S256x256_S512x256_1_0_0_1_n_n none l t (constant S512x256 .f32 0x00000000#32) (ix2 r k) =
      ∑ a : Fin 256, l (ix2 r a) * t (ix2 a k) := by
  refine (Ideal.matmul_plain_apply none l t _ r k).trans ?_
  show Ideal.ofBits .f32 0x00000000#32 + _ = _
  rw [Ideal.ofBits_zero_f32, zero_add]

/-- A sum of products of a finite row with real numbers is the real sum. -/
theorem coe_sum (u w : Fin 256 → ℝ) :
    ∑ a, ((u a : ℝ) : EReal) * ((w a : ℝ) : EReal) = ((∑ a, u a * w a : ℝ) : EReal) := by
  have h : ∀ s : Finset (Fin 256), ∑ a ∈ s, ((u a : ℝ) : EReal) * ((w a : ℝ) : EReal) = ((∑ a ∈ s, u a * w a : ℝ) : EReal) := by
    intro s
    induction s using Finset.induction_on with
    | empty => simp
    | insert a s ha ih => rw [Finset.sum_insert ha, Finset.sum_insert ha, ih, EReal.coe_add, EReal.coe_mul]
  exact h _

/-- The payload at an index of the half, for rows of finite scores. -/
theorem payload_apply (P Q : FVec Ideal S512x256 .bf16) (u v : Fin 256 → ℝ) (r : Fin 512) (c : Fin 256)
    (hP : ∀ a, P (ix2 r a) = ((u a : ℝ) : EReal)) (hQ : ∀ a, Q (ix2 r a) = ((v a : ℝ) : EReal)) :
    matmul dot_S512x256_S256x256_S512x256_1_0_0_1_n_n none
      (truncf .bf16 (mulf
        (matmul dot_S512x256_S256x256_S512x256_1_0_0_1_n_n none P (k0_pay3 (F := Ideal)) (constant S512x256 .f32 0x00000000#32))
        (matmul dot_S512x256_S256x256_S512x256_1_0_0_1_n_n none Q (k0_pay3 (F := Ideal)) (constant S512x256 .f32 0x00000000#32)))
        bitsLt_bf16_f32)
      (k0_pay4 (F := Ideal)) (constant S512x256 .f32 0x00000000#32) (ix2 r c) =
      ((∑ j, u j * v (xr j c) : ℝ) : EReal) := by
  rw [product_apply, ← convolution u v c, ← coe_sum]
  refine Finset.sum_congr rfl fun k _ => ?_
  rw [truncf_apply, mulf_apply, product_apply, product_apply, scaled_apply]
  simp only [hP, hQ, table_apply, coe_sum]
  rw [← EReal.coe_mul]

/-- The index in the whole array of an index in half `b`. -/
abbrev inHalf (b : Fin 2) (r : Fin 512) (k : Fin 256) : S1024x256.Idx := ix2 ⟨512 * b.val + r.val, by omega⟩ k

/-- The placement of half `b` of an array. -/
theorem emb_half (b : Fin 2) (r : Fin 512) (k : Fin 256) :
    (Rect.unit (s := S1024x256) (halfOff b) S512x256.size (halfOff_inb b)).emb (ix2 r k) = inHalf b r k := by
  funext a
  refine Fin.ext ?_
  match a with
  | ⟨0, _⟩ => simp
  | ⟨1, _⟩ => simp

variable (c : Dev nD)

/-- A half of the first array, of the second and of the result, read at an index. -/
theorem half_a (X : Buf (Elt Ideal) ((c : Thread nD τ).loc main_arg0)) (b : Fin 2) (r : Fin 512) (k : Fin 256) :
    (half aM b).view.read (Elt Ideal) X (ix2 r k) = X (inHalf b r k) := congrArg X (emb_half b r k)
theorem half_b (X : Buf (Elt Ideal) ((c : Thread nD τ).loc main_arg1)) (b : Fin 2) (r : Fin 512) (k : Fin 256) :
    (half bM b).view.read (Elt Ideal) X (ix2 r k) = X (inHalf b r k) := congrArg X (emb_half b r k)
theorem half_o (X : Buf (Elt Ideal) ((c : Thread nD τ).loc main_v0)) (b : Fin 2) (r : Fin 512) (k : Fin 256) :
    (half oM b).view.read (Elt Ideal) X (ix2 r k) = X (inHalf b r k) := congrArg X (emb_half b r k)

/-- The loaded block without its leading axis is the half. -/
theorem cast_loaded (M : Memref sig .tc .hbm S1024x256 .f32) (X : Buf (Elt Ideal) (M.view.loc (c : Thread nD τ))) (b : Fin 2) :
    shapeCast S512x256 (loaded c M X b) shapeCasts_S1x512x256_S512x256 = (half M b).view.read (Elt Ideal) X := by
  funext i
  unfold shapeCast loaded
  rw [Equiv.symm_apply_apply]

/-- What the kernel computes for half `b`, at an index, for finite scores. -/
theorem outBlk_apply (A B : S1024x256.Idx → ℝ) (XA : Buf (Elt Ideal) ((c : Thread nD τ).loc main_arg0))
    (XB : Buf (Elt Ideal) ((c : Thread nD τ).loc main_arg1))
    (hA : ∀ i, XA i = ((A i : ℝ) : EReal)) (hB : ∀ i, XB i = ((B i : ℝ) : EReal)) (b : Fin 2) (r : Fin 512) (k : Fin 256) :
    outBlk c XA XB b (ix2 r k) = ((∑ j, A (inHalf b r j) * B (inHalf b r (xr j k)) : ℝ) : EReal) := by
  have h := payload_apply (shapeCast S512x256 (loaded c aM XA b) shapeCasts_S1x512x256_S512x256)
    (shapeCast S512x256 (loaded c bM XB b) shapeCasts_S1x512x256_S512x256)
    (fun j => A (inHalf b r j)) (fun j => B (inHalf b r j)) r k
    (fun a => by rw [cast_loaded]; exact (half_a c XA b r a).trans (hA _))
    (fun a => by rw [cast_loaded]; exact (half_b c XB b r a).trans (hB _))
  refine Eq.trans ?_ h
  unfold outBlk k0_pay2 k0_pay1
  dsimp only
  unfold shapeCast
  rw [Shape.reshapeEquiv_reshapeEquiv, Shape.reshapeEquiv_self]
  rfl

/-- Every index is in one of the halves. -/
theorem exists_inHalf (i : S1024x256.Idx) : ∃ b r k, i = inHalf b r k := by
  have h0 : (i 0).val < 1024 := (i 0).isLt
  refine ⟨⟨(i 0).val / 512, by omega⟩, ⟨(i 0).val % 512, by omega⟩, i 1, ?_⟩
  funext a
  refine Fin.ext ?_
  match a with
  | ⟨0, _⟩ => show (i 0).val = 512 * ((i 0).val / 512) + (i 0).val % 512; omega
  | ⟨1, _⟩ => rfl

/-- The convolution of arrays of finite scores, at an index of a half. -/
theorem conv_inHalf (A B : S1024x256.Idx → ℝ) (X Y : S1024x256.Idx → EReal)
    (hA : ∀ i, X i = ((A i : ℝ) : EReal)) (hB : ∀ i, Y i = ((B i : ℝ) : EReal)) (b : Fin 2) (r : Fin 512) (k : Fin 256) :
    conv X Y (inHalf b r k) = ((∑ j, A (inHalf b r j) * B (inHalf b r (xr j k)) : ℝ) : EReal) := by
  rw [← coe_sum]
  unfold conv
  refine Finset.sum_congr rfl fun j _ => ?_
  rw [hA, hB]

/-- The final contents of the result, for finite scores. -/
theorem result_value (m : (ℓ : Loc nD τ sig) → Buf (Elt Ideal) ℓ) (s : (ℓ : Loc nD τ sig) → Buf (Elt Ideal) ℓ)
    (hA : ∀ i : S1024x256.Idx, ∃ x : ℝ, XA m c i = (x : EReal)) (hB : ∀ i : S1024x256.Idx, ∃ x : ℝ, XB m c i = (x : EReal))
    (h : ∀ b : Fin 2, (half oM b).view.read (Elt Ideal) (s ((c : Thread nD τ).loc main_v0)) = outBlk c (XA m c) (XB m c) b) :
    s ((c : Thread nD τ).loc main_v0) = conv (XA m c) (XB m c) := by
  choose A hA using hA
  choose B hB using hB
  funext i
  obtain ⟨b, r, k, rfl⟩ := exists_inHalf i
  exact (half_o c (s ((c : Thread nD τ).loc main_v0)) b r k).symm.trans ((congrFun (h b) (ix2 r k)).trans
    ((outBlk_apply c A B _ _ hA hB b r k).trans (conv_inHalf A B _ _ hA hB b r k).symm))

end Cert.Proof.KernelIdeal

end
-- ==== Proof.Precondition.lean ====
/-
  What the precondition says of the arguments: the scores are real numbers, the first table holds the column number, the
  second its exclusive or with the row number.
-/
module

public import proofs.«01_k».proof.Defs
public import proofs.«01_k».proof.Proof.Gen.Pre_xor_tables_finite
public import proofs.«01_k».proof.Proof.KernelValue

@[expose] public section

noncomputable section

namespace Cert.Proof

open Cert.KernelIdeal Idealize.ShloMosaic Idealize.ShloMosaic.TcCoe

/-- A decided bit is one exactly when what it decides holds. -/
theorem ofBool_eq_one (p : Bool) : BitVec.ofBool p = 1#1 ↔ p = true := by cases p <;> decide

/-- The bound the magnitudes are compared with is infinity. -/
theorem infinity : Ideal.ofBits .f32 0x7F800000#32 = (⊤ : EReal) := by simp [Ideal.ofBits, Ideal.ieee]

/-- An extended real of magnitude below infinity is a real number. -/
theorem real_of_abs_lt {x : EReal} (h : max x (-x) < ⊤) : ∃ r : ℝ, x = (r : EReal) := by
  induction x using EReal.rec with
  | bot => simp at h
  | coe r => exact ⟨r, rfl⟩
  | top => simp at h

/-- The comparison of a magnitude with infinity, when it is one. -/
theorem real_of_cmp {x : EReal} (h : Ideal.cmp .olt (max x (-x)) (Ideal.ofBits .f32 0x7F800000#32) = 1#1) :
    ∃ r : ℝ, x = (r : EReal) := by
  rw [infinity] at h
  exact real_of_abs_lt (of_decide_eq_true ((ofBool_eq_one _).mp h))

/-- Two words compared equal, when the comparison is one. -/
theorem eq_of_cmp {x y : BitVec 32} (h : BitVec.ofBool (x == y) = 1#1) : x = y := eq_of_beq ((ofBool_eq_one _).mp h)

variable (m : (ℓ : Loc nD τ sig) → Buf (Elt Ideal) ℓ) (h : Cert.Pre_KernelIdeal_xor_tables_finite m) (c : Dev nD)
include h

/-- The first array's scores are real numbers; -/
theorem finite_first (i : S1024x256.Idx) : ∃ r : ℝ, m ((c : Thread nD τ).loc main_arg0) i = (r : EReal) :=
  real_of_cmp (congrFun (h c).1 i)

/-- and so are the second's. -/
theorem finite_second (i : S1024x256.Idx) : ∃ r : ℝ, m ((c : Thread nD τ).loc main_arg1) i = (r : EReal) :=
  real_of_cmp (congrFun (h c).2.1 i)

/-- The first table holds the column number. -/
theorem table_first (i : S256x256.Idx) : m ((c : Thread nD τ).loc main_arg2) i = word (i 1) :=
  eq_of_cmp (congrFun (h c).2.2.1 i)

/-- The second table holds the exclusive or of the column number and the row number. -/
theorem table_second (i : S256x256.Idx) : m ((c : Thread nD τ).loc main_arg3) i = word (xr (i 1) (i 0)) :=
  (eq_of_cmp (congrFun (h c).2.2.2 i)).trans (word_xr (i 1) (i 0)).symm

end Cert.Proof

end
-- ==== Proof.lean ====
/-
  The proof of `Cert.Claim`: the two programs' runs, the reference's run, and the equality of their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_xor_tables_finite
public import proofs.«01_k».proof.Proof.RunIdeal
public import proofs.«01_k».proof.Proof.Precondition
public import Idealize.ShloMosaic.Lib.Quiescent

@[expose] public section

noncomputable section

namespace Cert.Proof

open Idealize.ShloMosaic Idealize.ShloMosaic.TcCoe Idealize.SL.Sem

/-- The kernel's frame. -/
theorem frame_kernel : Cert.quiescent_Kernel := fun m g _ =>
  (θ_run Cert.Kernel.defs _ _).mono (fun _ h => ⟨fun c => (h.1 c).2, h.2⟩) (Kernel.run_main (F := Bits) m g)

/-- The idealized kernel's frame. -/
theorem frame_ideal : Cert.quiescent_KernelIdeal := fun m g _ =>
  (θ_run Cert.KernelIdeal.defs _ _).mono (fun _ h => ⟨fun c => (h.1 c).2, h.2⟩) (KernelIdeal.run_main (F := Ideal) m g)

/-- The reference's frame; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The results are equal: both are the exclusive-or convolution of the two arrays' rows. -/
theorem algebraic : Cert.algebraic_KernelIdeal_ReferenceIdeal_pre_xor_tables_finite := by
  intro m g m' g' hpre hargs
  refine ⟨fun c => conv (KernelIdeal.XA m c) (KernelIdeal.XB m c), ?_, ?_⟩
  · exact (θ_run Cert.KernelIdeal.defs _ _).mono (fun r h c => ⟨KernelIdeal.result_value c m r.2.mem
      (finite_first m hpre c) (finite_second m hpre c) (h.1 c).1, (h.1 c).2⟩) (KernelIdeal.run_main (F := Ideal) m g)
  · refine (θ_run Cert.ReferenceIdeal.defs _ _).mono (fun r h c => ⟨?_, (h c).2⟩) (Cert.ReferenceIdeal.Value.run (F := Ideal) m' g')
    obtain ⟨e0, e1, e2, e3⟩ := hargs c
    refine (h c).1.trans ((reference_value _ _ _ _ (fun i => ?_) (fun i => ?_)).trans ?_)
    · exact (congrFun e2 i).trans (table_first m hpre c i)
    · exact (congrFun e3 i).trans (table_second m hpre c i)
    · exact congr (congrArg conv e0) e1

/-- Everything the certificate claims. -/
theorem claim : Cert.Claim := ⟨Cert.Kernel.Gen.facts, Cert.KernelIdeal.Gen.facts, Cert.ReferenceIdeal.Gen.facts,
  Cert.Pre_xor_tables_finite.Gen.facts, frame_kernel, frame_ideal, fun m g _ => frame_ideal m g trivial,
  frame_reference, fun m g _ => frame_reference m g trivial, trivial, algebraic⟩

end Cert.Proof

end
